-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_draws_positive [hPre_draws_positive : Cert.Pre_draws_positive.Facts] (m : (ℓ : Loc Cert.KernelIdeal.nD Cert.KernelIdeal.τ Cert.KernelIdeal.sig) → Buf (Elt Ideal) ℓ) : Prop :=
  ∀ c : Dev Cert.KernelIdeal.nD,
    (Cert.Pre_draws_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draws_positive [hPre_draws_positive : Cert.Pre_draws_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draws_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_draws_positive [hKernelIdeal : Cert.KernelIdeal.Facts] [hPre_draws_positive : Cert.Pre_draws_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draws_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_draws_positive [hReferenceIdeal : Cert.ReferenceIdeal.Facts] [hPre_draws_positive : Cert.Pre_draws_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draws_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "half_d_log_two_pi" .f32 0x426B3F8E#32 ((32 * (Real.log (13176795 / 2097152)) : ℝ) : EReal)
  ∧ IdealRules.named_const.Statement Cert.KernelIdeal.κ "log_k" .f32 0x40F3FCE1#32 ((Real.log 2048 : ℝ) : EReal)

def algebraic_KernelIdeal_ReferenceIdeal_pre_draws_positive [hKernelIdeal : Cert.KernelIdeal.Facts] [hReferenceIdeal : Cert.ReferenceIdeal.Facts] [hPre_draws_positive : Cert.Pre_draws_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draws_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_draws_positive : Cert.Pre_draws_positive.Facts),
    quiescent_Kernel (hKernel := hKernel)
    ∧ quiescent_KernelIdeal (hKernelIdeal := hKernelIdeal)
    ∧ quiescent_KernelIdeal_pre_draws_positive (hKernelIdeal := hKernelIdeal) (hPre_draws_positive := hPre_draws_positive)
    ∧ quiescent_ReferenceIdeal (hReferenceIdeal := hReferenceIdeal)
    ∧ quiescent_ReferenceIdeal_pre_draws_positive (hReferenceIdeal := hReferenceIdeal) (hPre_draws_positive := hPre_draws_positive)
    ∧ preserves_Kernel_KernelIdeal
    ∧ algebraic_KernelIdeal_ReferenceIdeal_pre_draws_positive (hKernelIdeal := hKernelIdeal) (hReferenceIdeal := hReferenceIdeal) (hPre_draws_positive := hPre_draws_positive)
-- ==== Pre_draws_positive.lean ====
abbrev S512x64 : Shape := ⟨2, ![512, 64]⟩
abbrev S2048x64 : Shape := ⟨2, ![2048, 64]⟩
abbrev S2048x512x64 : Shape := ⟨3, ![2048, 512, 64]⟩
abbrev S512x2048 : Shape := ⟨2, ![512, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : FVec F S512x64 .f32) (main_arg1 : FVec F S2048x64 .f32) (main_arg2 : FVec F S2048x512x64 .f32) (main_arg3 : FVec F S512x2048 .f32) : IVec S_ 1 :=
  let main_cst : FVec F S_ .f32 := constant S_ .f32 0x00000000#32
  let main_v0 : FVec F S512x2048 .f32 := broadcastInDim S512x2048 ![] bcast_S_S512x2048 main_cst
  let main_v1 : IVec S512x2048 1 := cmpf .ogt main_arg3 main_v0
  let main_c : IVec S_ 1 := constantI S_ 1 1#1
  let main_v2 : IVec S_ 1 := (fun x v => Host.reduce IntOp.andi x v reducesTo_S512x2048_S_d0_1 h_S_) main_v1 main_c
  main_v2
-- ==== Kernel.lean ====
abbrev S512x64 : Shape := ⟨2, ![512, 64]⟩
abbrev S2048x64 : Shape := ⟨2, ![2048, 64]⟩
abbrev S2048x512x64 : Shape := ⟨3, ![2048, 512, 64]⟩
abbrev S512x2048 : Shape := ⟨2, ![512, 2048]⟩
abbrev S2048x32768 : Shape := ⟨2, ![2048, 32768]⟩
abbrev S512x1x64 : Shape := ⟨3, ![512, 1, 64]⟩
abbrev S512x1x2048 : Shape := ⟨3, ![512, 1, 2048]⟩
abbrev S1x1 : Shape := ⟨2, ![1, 1]⟩
abbrev S2048x128 : Shape := ⟨2, ![2048, 128]⟩
abbrev S2x1x64 : Shape := ⟨3, ![2, 1, 64]⟩
abbrev S2x1x2048 : Shape := ⟨3, ![2, 1, 2048]⟩
abbrev S1x1x64 : Shape := ⟨3, ![1, 1, 64]⟩
abbrev S1x64 : Shape := ⟨2, ![1, 64]⟩
abbrev S1x1x2048 : Shape := ⟨3, ![1, 1, 2048]⟩
abbrev S1x2048 : Shape := ⟨2, ![1, 2048]⟩
abbrev S2048x1 : Shape := ⟨2, ![2048, 1]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S16x128 : Shape := ⟨2, ![16, 128]⟩
abbrev S128x128 : Shape := ⟨2, ![128, 128]⟩
abbrev S16x1 : Shape := ⟨2, ![16, 1]⟩
abbrev S16x16 : Shape := ⟨2, ![16, 16]⟩
abbrev S1x128 : Shape := ⟨2, ![1, 128]⟩
abbrev S1x127 : Shape := ⟨2, ![1, 127]⟩
abbrev S128x64 : Shape := ⟨2, ![128, 64]⟩
abbrev S_ : Shape := ⟨0, ![]⟩

abbrev nBuf : Space → Nat
  | .hbm => 9
  | .vmem => 8
  | .smem => 1
  | _ => 0

abbrev bufTy : (tb : Table) → Fin (tcTables nBuf tb) → BufTy
  | .hbm, ⟨0, _⟩ => ⟨S512x64, .f32⟩
  | .hbm, ⟨1, _⟩ => ⟨S2048x64, .f32⟩
  | .hbm, ⟨2, _⟩ => ⟨S2048x512x64, .f32⟩
  | .hbm, ⟨3, _⟩ => ⟨S512x2048, .f32⟩
  | .hbm, ⟨4, _⟩ => ⟨S2048x32768, .f32⟩
  | .hbm, ⟨5, _⟩ => ⟨S512x1x64, .f32⟩
  | .hbm, ⟨6, _⟩ => ⟨S512x1x2048, .f32⟩
  | .hbm, ⟨7, _⟩ => ⟨S1x1, .f32⟩
  | .hbm, ⟨8, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2x1x64, .f32⟩
  | .local _ .vmem, ⟨3, _⟩ => ⟨S2x1x64, .f32⟩
  | .local _ .vmem, ⟨4, _⟩ => ⟨S2x1x2048, .f32⟩
  | .local _ .vmem, ⟨5, _⟩ => ⟨S2x1x2048, .f32⟩
  | .local _ .vmem, ⟨6, _⟩ => ⟨S2048x64, .f32⟩
  | .local _ .vmem, ⟨7, _⟩ => ⟨S2048x64, .f32⟩
  | .local _ .smem, ⟨0, _⟩ => ⟨S1x1, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "half_d_log_two_pi" => some ((32 * (Real.log (13176795 / 2097152)) : ℝ) : EReal)
  | "log_k" => some ((Real.log 2048 : ℝ) : EReal)
  | _ => none
-- ==== ReferenceIdeal.lean ====
abbrev S512x64 : Shape := ⟨2, ![512, 64]⟩
abbrev S2048x64 : Shape := ⟨2, ![2048, 64]⟩
abbrev S2048x512x64 : Shape := ⟨3, ![2048, 512, 64]⟩
abbrev S512x2048 : Shape := ⟨2, ![512, 2048]⟩
abbrev S_ : Shape := ⟨0, ![]⟩
abbrev S2048x512 : Shape := ⟨2, ![2048, 512]⟩
abbrev S1x512x64 : Shape := ⟨3, ![1, 512, 64]⟩
abbrev S512x2048x64 : Shape := ⟨3, ![512, 2048, 64]⟩
abbrev S512 : Shape := ⟨1, ![512]⟩
abbrev S1x2048x64 : Shape := ⟨3, ![1, 2048, 64]⟩
abbrev S1x2048 : Shape := ⟨2, ![1, 2048]⟩
abbrev S2048 : Shape := ⟨1, ![2048]⟩
abbrev S1 : Shape := ⟨1, ![1]⟩
abbrev S2048x1 : Shape := ⟨2, ![2048, 1]⟩
abbrev S2048x2048 : Shape := ⟨2, ![2048, 2048]⟩

abbrev nBuf : Space → Nat
  | .hbm => 138
  | .vmem => 0
  | .smem => 0
  | _ => 0

abbrev hbmTy0_0 (i : Nat) : BufTy := match i % 128 with
  | 0 => ⟨S512x64, .f32⟩
  | 1 => ⟨S2048x64, .f32⟩
  | 2 => ⟨S2048x512x64, .f32⟩
  | 3 => ⟨S512x2048, .f32⟩
  | 4 => ⟨S_, .f32⟩
  | 5 => ⟨S2048x512x64, .f32⟩
  | 6 => ⟨S2048x512x64, .f32⟩
  | 7 => ⟨S2048x512x64, .f32⟩
  | 8 => ⟨S_, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S_, .f32⟩
  | 15 => ⟨S_, .f32⟩
  | 16 => ⟨S_, .f32⟩
  | 17 => ⟨S_, .f32⟩
  | 18 => ⟨S2048x512, .f32⟩
  | 19 => ⟨S2048x512, .f32⟩
  | 20 => ⟨S1x512x64, .f32⟩
  | 21 => ⟨S2048x512x64, .f32⟩
  | 22 => ⟨S2048x512x64, .f32⟩
  | 23 => ⟨S2048x512x64, .f32⟩
  | 24 => ⟨S_, .f32⟩
  | 25 => ⟨S2048x512, .f32⟩
  | 26 => ⟨S_, .f32⟩
  | 27 => ⟨S2048x512, .f32⟩
  | 28 => ⟨S2048x512, .f32⟩
  | 29 => ⟨S_, .f32⟩
  | 30 => ⟨S_, .f32⟩
  | 31 => ⟨S_, .f32⟩
  | 32 => ⟨S_, .f32⟩
  | 33 => ⟨S_, .f32⟩
  | 34 => ⟨S2048x512, .f32⟩
  | 35 => ⟨S2048x512, .f32⟩
  | 36 => ⟨S512x2048x64, .f32⟩
  | 37 => ⟨S512x2048, .f32⟩
  | 38 => ⟨S512x2048, .f32⟩
  | 39 => ⟨S_, .f32⟩
  | 40 => ⟨S512, .f32⟩
  | 41 => ⟨S_, .i32⟩
  | 42 => ⟨S512x2048x64, .f32⟩
  | 43 => ⟨S512x2048, .f32⟩
  | 44 => ⟨S512x2048, .f32⟩
  | 45 => ⟨S512x2048, .f32⟩
  | 46 => ⟨S_, .i32⟩
  | 47 => ⟨S2048x64, .f32⟩
  | 48 => ⟨S512, .f32⟩
  | 49 => ⟨S_, .i32⟩
  | 50 => ⟨S_, .i1⟩
  | 51 => ⟨S_, .i32⟩
  | 52 => ⟨S_, .i32⟩
  | 53 => ⟨S1x2048x64, .f32⟩
  | 54 => ⟨S2048x64, .f32⟩
  | 55 => ⟨S_, .i32⟩
  | 56 => ⟨S1x2048, .f32⟩
  | 57 => ⟨S2048, .f32⟩
  | 58 => ⟨S_, .i32⟩
  | 59 => ⟨S1x2048, .f32⟩
  | 60 => ⟨S2048, .f32⟩
  | 61 => ⟨S_, .i32⟩
  | 62 => ⟨S1x2048, .f32⟩
  | 63 => ⟨S2048, .f32⟩
  | 64 => ⟨S2048x64, .f32⟩
  | 65 => ⟨S2048x64, .f32⟩
  | 66 => ⟨S_, .f32⟩
  | 67 => ⟨S2048, .f32⟩
  | 68 => ⟨S_, .f32⟩
  | 69 => ⟨S2048, .f32⟩
  | 70 => ⟨S2048, .f32⟩
  | 71 => ⟨S_, .f32⟩
  | 72 => ⟨S_, .f32⟩
  | 73 => ⟨S_, .f32⟩
  | 74 => ⟨S_, .f32⟩
  | 75 => ⟨S_, .f32⟩
  | 76 => ⟨S2048, .f32⟩
  | 77 => ⟨S2048, .f32⟩
  | 78 => ⟨S2048, .f32⟩
  | 79 => ⟨S2048, .f32⟩
  | 80 => ⟨S_, .f32⟩
  | 81 => ⟨S_, .f32⟩
  | 82 => ⟨S2048, .f32⟩
  | 83 => ⟨S2048, .f32⟩
  | 84 => ⟨S2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1, .f32⟩
  | 96 => ⟨S2048, .f32⟩
  | 97 => ⟨S2048, .f32⟩
  | 98 => ⟨S2048, .f32⟩
  | 99 => ⟨S_, .f32⟩
  | 100 => ⟨S_, .f32⟩
  | 101 => ⟨S1, .f32⟩
  | 102 => ⟨S2048, .f32⟩
  | 103 => ⟨S2048, .f32⟩
  | 104 => ⟨S_, .f32⟩
  | 105 => ⟨S_, .f32⟩
  | 106 => ⟨S2048, .f32⟩
  | 107 => ⟨S1x2048, .f32⟩
  | 108 => ⟨S2048x1, .f32⟩
  | 109 => ⟨S2048x2048, .f32⟩
  | 110 => ⟨S2048x2048, .f32⟩
  | 111 => ⟨S2048x2048, .i1⟩
  | 112 => ⟨S2048x2048, .i32⟩
  | 113 => ⟨S_, .i32⟩
  | 114 => ⟨S2048, .i32⟩
  | 115 => ⟨S_, .i32⟩
  | 116 => ⟨S_, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i1⟩
  | 126 => ⟨S_, .i32⟩
  | 127 => ⟨S2048, .i32⟩
  | _ => ⟨S512x64, .f32⟩

abbrev hbmTy0_1 (i : Nat) : BufTy := match i % 128 with
  | 0 => ⟨S2048, .i32⟩
  | 1 => ⟨S2048, .i32⟩
  | 2 => ⟨S2048x1, .i32⟩
  | 3 => ⟨S2048x64, .f32⟩
  | 4 => ⟨S1, .f32⟩
  | 5 => ⟨S512, .f32⟩
  | 6 => ⟨S_, .i32⟩
  | 7 => ⟨S_, .i32⟩
  | 8 => ⟨S_, .f32⟩
  | 9 => ⟨S_, .f32⟩
  | _ => ⟨S512x64, .f32⟩

abbrev hbmTy (i : Nat) : BufTy := match i / 128 with
  | 0 => hbmTy0_0 i
  | 1 => hbmTy0_1 i
  | _ => ⟨S512x64, .f32⟩

abbrev bufTy : (tb : Table) → Fin (tcTables nBuf tb) → BufTy
  | .hbm, ⟨i, _⟩ => hbmTy i
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_c : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev main_while0c_c_16 : Ref sig .tc := ⟨.hbm, 49, rfl⟩
abbrev main_while0c_v29 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_v0 : Ref sig .tc := ⟨.hbm, 53, rfl⟩
abbrev main_while0b_v29 : Ref sig .tc := ⟨.hbm, 54, rfl⟩
abbrev main_while0b_call1_c : Ref sig .tc := ⟨.hbm, 55, rfl⟩
abbrev main_while0b_call1_v0 : Ref sig .tc := ⟨.hbm, 56, rfl⟩
abbrev main_while0b_v30 : Ref sig .tc := ⟨.hbm, 57, rfl⟩
abbrev main_while0b_call2_c : Ref sig .tc := ⟨.hbm, 58, rfl⟩
abbrev main_while0b_call2_v0 : Ref sig .tc := ⟨.hbm, 59, rfl⟩
abbrev main_while0b_v31 : Ref sig .tc := ⟨.hbm, 60, rfl⟩
abbrev main_while0b_call3_c : Ref sig .tc := ⟨.hbm, 61, rfl⟩
abbrev main_while0b_call3_v0 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_cst_16 : Ref sig .tc := ⟨.hbm, 66, rfl⟩
abbrev main_while0b_v35 : Ref sig .tc := ⟨.hbm, 67, rfl⟩
abbrev main_while0b_cst_17 : Ref sig .tc := ⟨.hbm, 68, rfl⟩
abbrev main_while0b_v36 : Ref sig .tc := ⟨.hbm, 69, rfl⟩
abbrev main_while0b_v37 : Ref sig .tc := ⟨.hbm, 70, rfl⟩
abbrev main_while0b_cst_18 : Ref sig .tc := ⟨.hbm, 71, rfl⟩
abbrev main_while0b_v38 : Ref sig .tc := ⟨.hbm, 72, rfl⟩
abbrev main_while0b_cst_19 : Ref sig .tc := ⟨.hbm, 73, rfl⟩
abbrev main_while0b_v39 : Ref sig .tc := ⟨.hbm, 74, rfl⟩
abbrev main_while0b_v40 : Ref sig .tc := ⟨.hbm, 75, rfl⟩
abbrev main_while0b_v41 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_cst_20 : Ref sig .tc := ⟨.hbm, 80, rfl⟩
abbrev main_while0b_v45 : Ref sig .tc := ⟨.hbm, 81, rfl⟩
abbrev main_while0b_v46 : Ref sig .tc := ⟨.hbm, 82, rfl⟩
abbrev main_while0b_v47 : Ref sig .tc := ⟨.hbm, 83, rfl⟩
abbrev main_while0b_v48 : Ref sig .tc := ⟨.hbm, 84, rfl⟩
abbrev main_while0b_cst_21 : Ref sig .tc := ⟨.hbm, 85, rfl⟩
abbrev main_while0b_v49 : Ref sig .tc := ⟨.hbm, 86, rfl⟩
abbrev main_while0b_cst_22 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_cst_23 : Ref sig .tc := ⟨.hbm, 91, rfl⟩
abbrev main_while0b_v53 : Ref sig .tc := ⟨.hbm, 92, rfl⟩
abbrev main_while0b_cst_24 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_cst_25 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_call4_call0_cst : Ref sig .tc := ⟨.hbm, 104, rfl⟩
abbrev main_while0b_call4_call0_v0 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_c_26 : Ref sig .tc := ⟨.hbm, 113, rfl⟩
abbrev main_while0b_v70 : Ref sig .tc := ⟨.hbm, 114, rfl⟩
abbrev main_while0b_c_27 : Ref sig .tc := ⟨.hbm, 115, rfl⟩
abbrev main_while0b_c_28 : Ref sig .tc := ⟨.hbm, 116, rfl⟩
abbrev main_while0b_call5_v0 : Ref sig .tc := ⟨.hbm, 117, rfl⟩
abbrev main_while0b_call5_v1 : Ref sig .tc := ⟨.hbm, 118, rfl⟩
abbrev main_while0b_call5_v2 : Ref sig .tc := ⟨.hbm, 119, rfl⟩
abbrev main_while0b_call5_v3 : Ref sig .tc := ⟨.hbm, 120, rfl⟩
abbrev main_while0b_call5_v4 : Ref sig .tc := ⟨.hbm, 121, rfl⟩
abbrev main_while0b_v71 : Ref sig .tc := ⟨.hbm, 122, rfl⟩
abbrev main_while0b_c_29 : Ref sig .tc := ⟨.hbm, 123, rfl⟩
abbrev main_while0b_v72 : Ref sig .tc := ⟨.hbm, 124, rfl⟩
abbrev main_while0b_v73 : Ref sig .tc := ⟨.hbm, 125, rfl⟩
abbrev main_while0b_c_30 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_v77 : Ref sig .tc := ⟨.hbm, 130, rfl⟩
abbrev main_while0b_v78 : Ref sig .tc := ⟨.hbm, 131, rfl⟩
abbrev main_while0b_call6_v0 : Ref sig .tc := ⟨.hbm, 132, rfl⟩
abbrev main_while0b_v79 : Ref sig .tc := ⟨.hbm, 133, rfl⟩
abbrev main_while0b_c_31 : Ref sig .tc := ⟨.hbm, 134, rfl⟩
abbrev main_while0b_v80 : Ref sig .tc := ⟨.hbm, 135, rfl⟩
abbrev main_cst_9 : Ref sig .tc := ⟨.hbm, 136, rfl⟩
abbrev main_v28 : Ref sig .tc := ⟨.hbm, 137, rfl⟩

abbrev nD : Nat := 1
abbrev τ : Topo := Topo.v7x

variable {F : FTy → Type} [FloatOps F]

abbrev main_while0_count : Scf.Loop 32 := ⟨0#32, 512#32, 1#32⟩
-- ==== Proof.KStep.lean ====
/- One time step of the kernel's body, as functions of the block of particles, the draws and the observation it
   reads: the scores, the weights, their running sums, the log-mean, and the particles drawn. -/
module

public import proofs.«01_k».proof.Proof.Gen.KernelIdeal

@[expose] public section

noncomputable section

namespace Cert.Proof.KStep

open Idealize.ShloMosaic Idealize.SL.Sem
open Cert.KernelIdeal Cert.KernelIdeal.Gen

variable {F : FTy → Type} [FloatOps F] [Named F]

/-- Half the constant vector of the scores. -/
def half : FVec F S2048x1 .f32 := broadcast S2048x1 (Scalar.ofBits .f32 0x3F000000#32)

/-- The sum of each row. -/
def rowSum (v : FVec F S2048x64 .f32) : FVec F S2048x1 .f32 :=
  shapeCast S2048x1 (multiReduction .add [1] S2048 v 0x00000000#32 reduces_S2048x64_S2048 (.inl rfl) rfl) shapeCasts_S2048_S2048x1

/-- The scores `z · (w + x) - ½ w · w - ½ z · z`. -/
def scores (w z : FVec F S2048x64 .f32) (x : FVec F S1x64 .f32) : FVec F S2048x1 .f32 :=
  subf (subf (rowSum (mulf z (addf w (broadcastTo S2048x64 x broadcasts_S1x64_S2048x64)))) (mulf half (rowSum (mulf w w))))
    (mulf half (rowSum (mulf z z)))

/-- The greatest entry of a column. -/
def top (s : FVec F S2048x1 .f32) : F .f32 :=
  extractAt ![0, 0, 0] (shapeCast S1x1x1 (multiReduction .maximumf [1, 2] S1
    (shapeCast S1x2048x1 s shapeCasts_S2048x1_S1x2048x1) 0xFF800000#32 reduces_S1x2048x1_S1 (.inl rfl) rfl) shapeCasts_S1_S1x1x1)
    inpos_S1x1x1_p0_0_0

/-- The sum of a column. -/
def total (e : FVec F S2048x1 .f32) : F .f32 :=
  extractAt ![0, 0, 0] (shapeCast S1x1x1 (multiReduction .add [1, 2] S1
    (shapeCast S1x2048x1 e shapeCasts_S2048x1_S1x2048x1) 0x00000000#32 reduces_S1x2048x1_S1 (.inl rfl) rfl) shapeCasts_S1_S1x1x1)
    inpos_S1x1x1_p0_0_0

/-- The weights `exp (s - max s)`. -/
def weights (s : FVec F S2048x1 .f32) : FVec F S2048x1 .f32 := exp (subf s (broadcast S2048x1 (top s)))

/-- The sum of the squares of the observation. -/
def sqObs (x : FVec F S1x64 .f32) : F .f32 :=
  extractAt ![0, 0, 0] (shapeCast S1x1x1 (multiReduction .add [1, 2] S1
    (shapeCast S1x1x64 (mulf x x) shapeCasts_S1x64_S1x1x64) 0x00000000#32 reduces_S1x1x64_S1 (.inl rfl) rfl) shapeCasts_S1_S1x1x1)
    inpos_S1x1x1_p0_0_0

/-- The log-mean of the weights, of the observation, the greatest score and the sum of the weights. -/
def logMean (x : FVec F S1x64 .f32) (m S : F .f32) : F .f32 :=
  Scalar.addf (Scalar.addf (Scalar.subf (Scalar.log S) (Named.named κ "log_k" 0x40F3FCE1#32)) m)
    (Scalar.subf (Scalar.mulf (Scalar.ofBits .f32 0xBF000000#32) (sqObs x)) (Named.named κ "half_d_log_two_pi" 0x426B3F8E#32))

/-- The running sums within each block of 128 weights. -/
def runs (e : FVec F S2048x1 .f32) : FVec F S16x128 .f32 :=
  matmul dot_S16x128_S128x128_S16x128_1_0_0_1_n_n (some .fp32) (shapeCast S16x128 e shapeCasts_S2048x1_S16x128)
    (sitofp .f32 (extui 32 (cmpi .sle (iota .tc S128x128 32 [0] iota_S128x128_d0_w32) (iota .tc S128x128 32 [1] iota_S128x128_d1_w32)) natLt_1_32))
    (constant S16x128 .f32 0x00000000#32)

/-- The sum of the weights of the blocks before each. -/
def offs (e : FVec F S2048x1 .f32) : FVec F S16x1 .f32 :=
  matmul dot_S16x16_S16x1_S16x1_1_0_0_1_n_n (some .fp32)
    (sitofp .f32 (extui 32 (cmpi .slt (iota .tc S16x16 32 [1] iota_S16x16_d1_w32) (iota .tc S16x16 32 [0] iota_S16x16_d0_w32)) natLt_1_32))
    (extractStridedSlice S16x1 ![0, 127] (runs e) slices_S16x128_o0_127_S16x1)
    (constant S16x1 .f32 0x00000000#32)

/-- The running sums of the weights, the last of them replaced by infinity. -/
def cums (e : FVec F S2048x1 .f32) : FVec F S16x128 .f32 :=
  select (andi (cmpi .eq (iota .tc S16x128 32 [0] iota_S16x128_d0_w32) (broadcast S16x128 15#32))
      (cmpi .eq (iota .tc S16x128 32 [1] iota_S16x128_d1_w32) (broadcast S16x128 127#32)))
    (broadcast S16x128 (Scalar.ofBits .f32 0x7F800000#32))
    (addf (runs e) (broadcastTo S16x128 (offs e) broadcasts_S16x1_S16x128))

/-- The draws scaled by the sum of the weights. -/
def scaled (u : FVec F S2048x1 .f32) (S : F .f32) : FVec F S2048x1 .f32 := mulf u (broadcast S2048x1 S)

/-- Where a running sum is at least the scaled draw, as 0 or 1. -/
def above (row : FVec F S1x128 .f32) (t : FVec F S2048x1 .f32) : FVec F S2048x128 .f32 :=
  sitofp .f32 (extui 32 (cmpf .oge (broadcastTo S2048x128 row broadcasts_S1x128_S2048x128)
    (broadcastTo S2048x128 t broadcasts_S2048x1_S2048x128)) natLt_1_32)

/-- A row moved one place to the right, `p` in its first place. -/
def shifted (p : F .f32) (row : FVec F S1x128 .f32) : FVec F S1x128 .f32 :=
  concatenate S1x128 1 [⟨S1x1, broadcast S1x1 p⟩, ⟨S1x127, extractStridedSlice S1x127 ![0, 0] row slices_S1x128_o0_0_S1x127⟩]
    concatenates_S1x1_S1x127_S1x128_d1

/-- One block's contribution to the particles drawn. -/
def part (acc : FVec F S2048x64 .f32) (p : F .f32) (row : FVec F S1x128 .f32) (t : FVec F S2048x1 .f32)
    (w : FVec F S128x64 .f32) : FVec F S2048x64 .f32 :=
  addf acc (matmul dot_S2048x128_S128x64_S2048x64_1_0_0_1_n_n (some .fp32) (subf (above row t) (above (shifted p row) t)) w
    (constant S2048x64 .f32 0x00000000#32))

/-- Each row of the running sums lies within the table. -/
theorem fits_row : ∀ b : Fin 16, S16x128.Slices ![b.val, 0] S1x128 := by decide
/-- Each offset lies within its column. -/
theorem fits_off : ∀ b : Fin 16, S16x1.Slices ![b.val, 0] S1x1 := by decide
/-- Each block of 128 particles lies within the table. -/
theorem fits_blk : ∀ b : Fin 16, S2048x64.Slices ![128 * b.val, 0] S128x64 := by decide

/-- What stands before block `b`'s running sums: nothing, or the sum of the blocks before it. -/
def before (o : FVec F S16x1 .f32) (b : Fin 16) : F .f32 :=
  if b = 0 then Scalar.ofBits .f32 0x00000000#32
  else extractAt ![0, 0] (extractStridedSlice S1x1 ![b.val, 0] o (fits_off b)) inpos_S1x1_p0_0

/-- The particles drawn by the first `n` blocks. -/
def drawn (w : FVec F S2048x64 .f32) (o : FVec F S16x1 .f32) (c : FVec F S16x128 .f32) (t : FVec F S2048x1 .f32) :
    (n : ℕ) → n ≤ 16 → FVec F S2048x64 .f32
  | 0, _ => broadcast S2048x64 (Scalar.ofBits .f32 0x00000000#32)
  | n + 1, h => part (drawn w o c t n (by omega)) (before o ⟨n, h⟩)
      (extractStridedSlice S1x128 ![n, 0] c (fits_row ⟨n, h⟩)) t
      (extractStridedSlice S128x64 ![128 * n, 0] w (fits_blk ⟨n, h⟩))

/-- The log-mean of one time step. -/
def stepR (w z : FVec F S2048x64 .f32) (x : FVec F S1x64 .f32) : F .f32 :=
  logMean x (top (scores w z x)) (total (weights (scores w z x)))

/-- The particles after one time step. -/
def stepW (w z : FVec F S2048x64 .f32) (x : FVec F S1x64 .f32) (u : FVec F S2048x1 .f32) : FVec F S2048x64 .f32 :=
  drawn w (offs (weights (scores w z x))) (cums (weights (scores w z x))) (scaled u (total (weights (scores w z x)))) 16 le_rfl

end Cert.Proof.KStep

end
-- ==== Proof.KBody.lean ====
/- What one grid point of the kernel leaves: the particles and the running total after its two time steps, as
   functions of the blocks it reads and of what the point before left. -/
module

public import proofs.«01_k».proof.Proof.Gen.KernelIdeal.Frame
public import proofs.«01_k».proof.Proof.KStep
public import Idealize.ShloMosaic.Lib.Pipeline.ValueKit
public import Idealize.ShloMosaic.Lib.Pointwise

@[expose] public section

set_option maxRecDepth 16384

noncomputable section

namespace Cert.Proof.KBody

open Idealize.ShloMosaic Idealize.ShloMosaic.TcCoe Idealize.ShloMosaic.Tactic
open Idealize.SL.Sem Cert.KernelIdeal Cert.KernelIdeal.Gen Cert.Proof.KStep

variable {F : FTy → Type} [FloatOps F] [Named F]

/-! ## The halves of a point's blocks -/

/-- The draws of the particles of the point's step `o`. -/
def zOf (o : Fin 2) (x0 : Vec F S2048x128 .f32) : FVec F S2048x64 .f32 :=
  fun i => x0 (ix2 (i 0) ⟨64 * o.val + (i 1).val, by have h1 := o.isLt; have h2 : (i 1).val < 64 := (i 1).isLt; omega⟩)

/-- The observation of the point's step `o`. -/
def xOf (o : Fin 2) (x1 : Vec F S2x1x64 .f32) : FVec F S1x64 .f32 := fun i => x1 (ix3 o 0 (i 1))

/-- The uniform draws of the point's step `o`. -/
def uOf (o : Fin 2) (x2 : Vec F S2x1x2048 .f32) : FVec F S2048x1 .f32 := fun i => x2 (ix3 o 0 (i 0))

/-- The particles after the two steps of a point. -/
def twoW (w : FVec F S2048x64 .f32) (x0 : Vec F S2048x128 .f32) (x1 : Vec F S2x1x64 .f32) (x2 : Vec F S2x1x2048 .f32) :
    FVec F S2048x64 .f32 :=
  stepW (stepW w (zOf 0 x0) (xOf 0 x1) (uOf 0 x2)) (zOf 1 x0) (xOf 1 x1) (uOf 1 x2)

/-- What a point adds to the total. -/
def twoR (w : FVec F S2048x64 .f32) (x0 : Vec F S2048x128 .f32) (x1 : Vec F S2x1x64 .f32) (x2 : Vec F S2x1x2048 .f32) : F .f32 :=
  Scalar.addf (Scalar.addf (Scalar.ofBits .f32 0x00000000#32) (stepR w (zOf 0 x0) (xOf 0 x1)))
    (stepR (stepW w (zOf 0 x0) (xOf 0 x1) (uOf 0 x2)) (zOf 1 x0) (xOf 1 x1))

/-- The first 64 columns of the block are the first step's proposals. -/
theorem z0_eq (x0 : Vec F S2048x128 .f32) :
    (shapeCast S2048x64 (View.ld x0 (Rect.unit ![0, 0] S2048x64.size inb_S2048x128_S2048x64_0_0)) shapeCasts_S2048x64_S2048x64
      : FVec F S2048x64 .f32) = zOf 0 x0 := by
  funext i; pointwise [zOf]

/-- The last 64 columns of the block are the second step's proposals. -/
theorem z1_eq (x0 : Vec F S2048x128 .f32) :
    (shapeCast S2048x64 (View.ld x0 (Rect.unit ![0, 64] S2048x64.size inb_S2048x128_S2048x64_0_64)) shapeCasts_S2048x64_S2048x64
      : FVec F S2048x64 .f32) = zOf 1 x0 := by
  funext i; pointwise [zOf]

/-- The first row of the block is the first step's observation. -/
theorem x0_eq (x1 : Vec F S2x1x64 .f32) :
    (shapeCast S1x64 (View.ld x1 (Rect.unit ![0, 0, 0] S1x1x64.size inb_S2x1x64_S1x1x64_0_0_0)) shapeCasts_S1x1x64_S1x64
      : FVec F S1x64 .f32) = xOf 0 x1 := by
  funext i; pointwise [xOf]

/-- The second row of the block is the second step's observation. -/
theorem x1_eq (x1 : Vec F S2x1x64 .f32) :
    (shapeCast S1x64 (View.ld x1 (Rect.unit ![1, 0, 0] S1x1x64.size inb_S2x1x64_S1x1x64_1_0_0)) shapeCasts_S1x1x64_S1x64
      : FVec F S1x64 .f32) = xOf 1 x1 := by
  funext i; pointwise [xOf]

/-- The first row of the block, stood up, is the first step's draws. -/
theorem u0_eq (x2 : Vec F S2x1x2048 .f32) :
    (shapeCast S2048x1 (shapeCast S1x2048 (View.ld x2 (Rect.unit ![0, 0, 0] S1x1x2048.size inb_S2x1x2048_S1x1x2048_0_0_0))
      shapeCasts_S1x1x2048_S1x2048) shapeCasts_S1x2048_S2048x1 : FVec F S2048x1 .f32) = uOf 0 x2 := by
  funext i; pointwise [uOf]

/-- The second row of the block, stood up, is the second step's draws. -/
theorem u1_eq (x2 : Vec F S2x1x2048 .f32) :
    (shapeCast S2048x1 (shapeCast S1x2048 (View.ld x2 (Rect.unit ![1, 0, 0] S1x1x2048.size inb_S2x1x2048_S1x1x2048_1_0_0))
      shapeCasts_S1x1x2048_S1x2048) shapeCasts_S1x2048_S2048x1 : FVec F S2048x1 .f32) = uOf 1 x2 := by
  funext i; pointwise [uOf]

/-- A load of the whole table of particles. -/
theorem w_eq (x3 : Vec F S2048x64 .f32) : View.ld x3 (Rect.unit ![0, 0] S2048x64.size inb_S2048x64_S2048x64_0_0) = x3 := by
  funext i; pointwise []

/-- A cast of a table to its own shape. -/
theorem cast_id (w : FVec F S2048x64 .f32) : shapeCast S2048x64 w shapeCasts_S2048x64_S2048x64 = w := by
  funext i; pointwise []

variable (c : Dev nD) (i : grid0.Coords) (arg1 : Memref sig .tc .vmem S2048x128 .f32) (harg1 : arg1.IsWhole)
  (arg2 : Memref sig .tc .vmem S2x1x64 .f32) (harg2 : arg2.IsWhole) (arg3 : Memref sig .tc .vmem S2x1x2048 .f32)
  (harg3 : arg3.IsWhole) (arg4 : Memref sig .tc .vmem S2048x64 .f32) (harg4 : arg4.IsWhole)
  (arg5 : Memref sig .tc .smem S1x1 .f32) (harg5 : arg5.IsWhole) (arg6 : Memref sig .tc .vmem S2048x64 .f32) (harg6 : arg6.IsWhole)
  (x0 : Vec F S2048x128 .f32) (x1 : Vec F S2x1x64 .f32) (x2 : Vec F S2x1x2048 .f32) (x3 : Vec F S2048x64 .f32)
  (xo4 : Vec F S1x1 .f32) (xs0 : Vec F S2048x64 .f32)

/-! ## A point that is not the first -/

/-- A later point starts from the particles that the one before it left. -/
theorem b_r : kernelRun0_B.sl.r c arg6 harg6 xs0 = xs0 := by
  unfold kernelRun0_B.sl.r; rw [View.readAt_eq_ld, harg6.read_unread]; exact w_eq xs0

/-- The first step's proposals, at a later point. -/
theorem b_v5 : kernelRun0_B.sl.v5 c arg1 harg1 x0 = zOf 0 x0 := by
  unfold kernelRun0_B.sl.v5; rw [View.readAt_eq_ld, harg1.read_unread]; exact z0_eq x0

/-- The first step's observation, at a later point. -/
theorem b_v7 : kernelRun0_B.sl.v7 c arg2 harg2 x1 = xOf 0 x1 := by
  unfold kernelRun0_B.sl.v7; rw [View.readAt_eq_ld, harg2.read_unread]; exact x0_eq x1

/-- The first step's draws, at a later point. -/
theorem b_v10 : kernelRun0_B.sl.v10 c arg3 harg3 x2 = uOf 0 x2 := by
  unfold kernelRun0_B.sl.v10 kernelRun0_B.sl.v9; rw [View.readAt_eq_ld, harg3.read_unread]; exact u0_eq x2

/-- The second step's proposals, at a later point. -/
theorem b_v398 : kernelRun0_B.sl.v398 c arg1 harg1 x0 = zOf 1 x0 := by
  unfold kernelRun0_B.sl.v398; rw [View.readAt_eq_ld, harg1.read_unread]; exact z1_eq x0

/-- The second step's observation, at a later point. -/
theorem b_v400 : kernelRun0_B.sl.v400 c arg2 harg2 x1 = xOf 1 x1 := by
  unfold kernelRun0_B.sl.v400; rw [View.readAt_eq_ld, harg2.read_unread]; exact x1_eq x1

/-- The second step's draws, at a later point. -/
theorem b_v403 : kernelRun0_B.sl.v403 c arg3 harg3 x2 = uOf 1 x2 := by
  unfold kernelRun0_B.sl.v403 kernelRun0_B.sl.v402; rw [View.readAt_eq_ld, harg3.read_unread]; exact u1_eq x2

/-- The first step's weights, at a later point. -/
theorem b_wts : kernelRun0_B.sl.v34 c arg1 harg1 arg2 harg2 arg6 harg6 x0 x1 xs0
    = weights (scores (kernelRun0_B.sl.r c arg6 harg6 xs0) (kernelRun0_B.sl.v5 c arg1 harg1 x0) (kernelRun0_B.sl.v7 c arg2 harg2 x1)) := rfl

/-- The particles after the first step, at a later point. -/
theorem b_first : kernelRun0_B.sl.v395 c arg1 harg1 arg2 harg2 arg3 harg3 arg6 harg6 x0 x1 x2 xs0
    = stepW (kernelRun0_B.sl.r c arg6 harg6 xs0) (kernelRun0_B.sl.v5 c arg1 harg1 x0) (kernelRun0_B.sl.v7 c arg2 harg2 x1)
      (kernelRun0_B.sl.v10 c arg3 harg3 x2) := by
  unfold stepW
  rw [← b_wts]
  rfl

/-- The particles after the second step, at a later point. -/
theorem b_second : kernelRun0_B.sl.r_12 c arg1 harg1 arg2 harg2 arg3 harg3 arg6 harg6 x0 x1 x2 xs0
    = stepW (kernelRun0_B.sl.v395 c arg1 harg1 arg2 harg2 arg3 harg3 arg6 harg6 x0 x1 x2 xs0) (kernelRun0_B.sl.v398 c arg1 harg1 x0)
      (kernelRun0_B.sl.v400 c arg2 harg2 x1) (kernelRun0_B.sl.v403 c arg3 harg3 x2) := by
  refine Eq.trans ?_ (cast_id _)
  unfold stepW
  rfl

/-- The two log-means' sum, at a later point. -/
theorem b_logs : kernelRun0_B.sl.r_11 c arg1 harg1 arg2 harg2 arg3 harg3 arg6 harg6 x0 x1 x2 xs0
    = Scalar.addf (Scalar.addf (Scalar.ofBits .f32 0x00000000#32)
        (stepR (kernelRun0_B.sl.r c arg6 harg6 xs0) (kernelRun0_B.sl.v5 c arg1 harg1 x0) (kernelRun0_B.sl.v7 c arg2 harg2 x1)))
      (stepR (kernelRun0_B.sl.v395 c arg1 harg1 arg2 harg2 arg3 harg3 arg6 harg6 x0 x1 x2 xs0) (kernelRun0_B.sl.v398 c arg1 harg1 x0)
        (kernelRun0_B.sl.v400 c arg2 harg2 x1)) := by
  unfold stepR
  rfl

/-- What a later point leaves in the table of particles. -/
theorem sout_B (hc0 : ¬ cond0_0 i) :
    sout0_B_0 c i arg1 harg1 arg2 harg2 arg3 harg3 arg4 harg4 arg5 harg5 arg6 harg6 hc0 x0 x1 x2 x3 xo4 xs0 = twoW xs0 x0 x1 x2 := by
  unfold sout0_B_0; rw [View.read_writes_junk_eq_canon]; unfold kernelRun0_B; dsimp only
  rw [b_second, b_first, b_r, b_v5, b_v7, b_v10, b_v398, b_v400, b_v403]
  exact View.canon_cons_unit_lit _ _ _ (by decide)

/-- What a later point leaves in the accumulator. -/
theorem out_B (hc0 : ¬ cond0_0 i) :
    out0_B_4 c i arg1 harg1 arg2 harg2 arg3 harg3 arg4 harg4 arg5 harg5 arg6 harg6 hc0 x0 x1 x2 x3 xo4 xs0
      = fun _ => Scalar.addf (xo4 (ix2 0 0)) (twoR xs0 x0 x1 x2) := by
  unfold out0_B_4; rw [View.read_writes_junk_eq_canon]; unfold kernelRun0_B; dsimp only
  rw [b_logs, b_first, b_r, b_v5, b_v7, b_v10, b_v398, b_v400]
  refine (View.canon_cons_unit_lit _ _ _ (by decide)).trans ?_
  funext j
  unfold kernelRun0_B.sl.r_13
  rw [View.readAt_eq_ld, harg5.read_unread]
  refine congrArg (fun v => Scalar.addf v (twoR xs0 x0 x1 x2)) (congrArg xo4 (funext fun a => ?_))
  have h : ∀ a : Fin 2, S1x1.size a = 1 := by decide
  have h1 := lt_of_lt_of_eq (((Rect.unit ![0, 0] ![1, 1] inb_S1x1_S1x1_0_0).toLoadRect.idx (Shape.Idx.first (by decide))) a).isLt (h a)
  have h2 := lt_of_lt_of_eq ((ix2 0 0 : S1x1.Idx) a).isLt (h a)
  exact Fin.ext ((Nat.lt_one_iff.mp h1).trans (Nat.lt_one_iff.mp h2).symm)

/-! ## The first point -/

/-- The first point starts from the given particles. -/
theorem a_v3 : kernelRun0_A.sl.v3 c arg4 harg4 arg6 x3 = x3 := by
  unfold kernelRun0_A.sl.v3 kernelRun0_A.sl.HS0_1
  refine (View.readCov_unit_lit _ _ _ (by decide)).trans ?_
  unfold kernelRun0_A.sl.v799
  rw [View.readAt_eq_ld, harg4.read_unread]
  exact (cast_id _).trans (w_eq x3)

/-- The first step's proposals, at the first point. -/
theorem a_v5 : kernelRun0_A.sl.v5 c arg1 harg1 x0 = zOf 0 x0 := by
  unfold kernelRun0_A.sl.v5; rw [View.readAt_eq_ld, harg1.read_unread]; exact z0_eq x0

/-- The first step's observation, at the first point. -/
theorem a_v7 : kernelRun0_A.sl.v7 c arg2 harg2 x1 = xOf 0 x1 := by
  unfold kernelRun0_A.sl.v7; rw [View.readAt_eq_ld, harg2.read_unread]; exact x0_eq x1

/-- The first step's draws, at the first point. -/
theorem a_v10 : kernelRun0_A.sl.v10 c arg3 harg3 x2 = uOf 0 x2 := by
  unfold kernelRun0_A.sl.v10 kernelRun0_A.sl.v9; rw [View.readAt_eq_ld, harg3.read_unread]; exact u0_eq x2

/-- The second step's proposals, at the first point. -/
theorem a_v398 : kernelRun0_A.sl.v398 c arg1 harg1 x0 = zOf 1 x0 := by
  unfold kernelRun0_A.sl.v398; rw [View.readAt_eq_ld, harg1.read_unread]; exact z1_eq x0

/-- The second step's observation, at the first point. -/
theorem a_v400 : kernelRun0_A.sl.v400 c arg2 harg2 x1 = xOf 1 x1 := by
  unfold kernelRun0_A.sl.v400; rw [View.readAt_eq_ld, harg2.read_unread]; exact x1_eq x1

/-- The second step's draws, at the first point. -/
theorem a_v403 : kernelRun0_A.sl.v403 c arg3 harg3 x2 = uOf 1 x2 := by
  unfold kernelRun0_A.sl.v403 kernelRun0_A.sl.v402; rw [View.readAt_eq_ld, harg3.read_unread]; exact u1_eq x2

/-- The first step's weights, at the first point. -/
theorem a_wts : kernelRun0_A.sl.v34 c arg1 harg1 arg2 harg2 arg4 harg4 arg6 x0 x1 x3
    = weights (scores (kernelRun0_A.sl.v3 c arg4 harg4 arg6 x3) (kernelRun0_A.sl.v5 c arg1 harg1 x0) (kernelRun0_A.sl.v7 c arg2 harg2 x1)) := rfl

/-- The particles after the first step, at the first point. -/
theorem a_first : kernelRun0_A.sl.v395 c arg1 harg1 arg2 harg2 arg3 harg3 arg4 harg4 arg6 x0 x1 x2 x3
    = stepW (kernelRun0_A.sl.v3 c arg4 harg4 arg6 x3) (kernelRun0_A.sl.v5 c arg1 harg1 x0) (kernelRun0_A.sl.v7 c arg2 harg2 x1)
      (kernelRun0_A.sl.v10 c arg3 harg3 x2) := by
  unfold stepW
  rw [← a_wts]
  rfl

/-- The particles after the second step, at the first point. -/
theorem a_second : kernelRun0_A.sl.r_12 c arg1 harg1 arg2 harg2 arg3 harg3 arg4 harg4 arg6 x0 x1 x2 x3
    = stepW (kernelRun0_A.sl.v395 c arg1 harg1 arg2 harg2 arg3 harg3 arg4 harg4 arg6 x0 x1 x2 x3) (kernelRun0_A.sl.v398 c arg1 harg1 x0)
      (kernelRun0_A.sl.v400 c arg2 harg2 x1) (kernelRun0_A.sl.v403 c arg3 harg3 x2) := by
  refine Eq.trans ?_ (cast_id _)
  unfold stepW
  rfl

/-- The two log-means' sum, at the first point. -/
theorem a_logs : kernelRun0_A.sl.r_11 c arg1 harg1 arg2 harg2 arg3 harg3 arg4 harg4 arg6 x0 x1 x2 x3
    = Scalar.addf (Scalar.addf (Scalar.ofBits .f32 0x00000000#32)
        (stepR (kernelRun0_A.sl.v3 c arg4 harg4 arg6 x3) (kernelRun0_A.sl.v5 c arg1 harg1 x0) (kernelRun0_A.sl.v7 c arg2 harg2 x1)))
      (stepR (kernelRun0_A.sl.v395 c arg1 harg1 arg2 harg2 arg3 harg3 arg4 harg4 arg6 x0 x1 x2 x3) (kernelRun0_A.sl.v398 c arg1 harg1 x0)
        (kernelRun0_A.sl.v400 c arg2 harg2 x1)) := by
  unfold stepR
  rfl

/-- What the first point leaves in the table of particles. -/
theorem sout_A (hc0 : cond0_0 i) :
    sout0_A_0 c i arg1 harg1 arg2 harg2 arg3 harg3 arg4 harg4 arg5 harg5 arg6 harg6 hc0 x0 x1 x2 x3 = twoW x3 x0 x1 x2 := by
  unfold sout0_A_0; rw [View.read_writes_junk_eq_canon]; unfold kernelRun0_A; dsimp only
  rw [a_second, a_first, a_v3, a_v5, a_v7, a_v10, a_v398, a_v400, a_v403]
  exact View.canon_cons_unit_lit _ _ _ (by decide)

/-- What the first point leaves in the accumulator. -/
theorem out_A (hc0 : cond0_0 i) :
    out0_A_4 c i arg1 harg1 arg2 harg2 arg3 harg3 arg4 harg4 arg5 harg5 arg6 harg6 hc0 x0 x1 x2 x3
      = fun _ => Scalar.addf (Scalar.ofBits .f32 0x00000000#32) (twoR x3 x0 x1 x2) := by
  unfold out0_A_4; rw [View.read_writes_junk_eq_canon]; unfold kernelRun0_A; dsimp only
  rw [a_logs, a_first, a_v3, a_v5, a_v7, a_v10, a_v398, a_v400]
  exact View.canon_cons_unit_lit _ _ _ (by decide)

end Cert.Proof.KBody

end
-- ==== Proof.KRun.lean ====
/- The kernel's run: what its grid of points accumulates, and the result it leaves. -/
module

public import proofs.«01_k».proof.Proof.KBody
public import Idealize.ShloMosaic.Lib.StableHlo.RunRead

@[expose] public section

set_option maxRecDepth 16384

noncomputable section

namespace Cert.Proof.KRun

open Idealize.ShloMosaic Idealize.ShloMosaic.TcCoe Idealize.ShloMosaic.Tactic
open Idealize.SL.Sem Cert.KernelIdeal Cert.KernelIdeal.Gen Cert.Proof.KStep Cert.Proof.KBody
open Idealize.ShloMosaic.Pipeline (Dat)

variable {F : FTy → Type} [FloatOps F] [Named F]

/-- The draws of the particles of step `k`. -/
def zK (z : Vec F S2048x512x64 .f32) (k : ℕ) : FVec F S2048x64 .f32 := fun i => z (ix3 (i 0) ⟨k % 512, Nat.mod_lt _ (by decide)⟩ (i 1))

/-- The observation of step `k`. -/
def xK (x : Vec F S512x64 .f32) (k : ℕ) : FVec F S1x64 .f32 := fun i => x (ix2 ⟨k % 512, Nat.mod_lt _ (by decide)⟩ (i 1))

/-- The uniform draws of step `k`. -/
def uK (u : Vec F S512x2048 .f32) (k : ℕ) : FVec F S2048x1 .f32 := fun i => u (ix2 ⟨k % 512, Nat.mod_lt _ (by decide)⟩ (i 0))

/-- The particles after `k` steps. -/
def wK (x : Vec F S512x64 .f32) (w : Vec F S2048x64 .f32) (z : Vec F S2048x512x64 .f32) (u : Vec F S512x2048 .f32) :
    ℕ → FVec F S2048x64 .f32
  | 0 => w
  | k + 1 => stepW (wK x w z u k) (zK z k) (xK x k) (uK u k)

/-- The log-mean of step `k`. -/
def rK (x : Vec F S512x64 .f32) (w : Vec F S2048x64 .f32) (z : Vec F S2048x512x64 .f32) (u : Vec F S512x2048 .f32) (k : ℕ) : F .f32 :=
  stepR (wK x w z u k) (zK z k) (xK x k)

/-- The total after `t` points. -/
def sumK (x : Vec F S512x64 .f32) (w : Vec F S2048x64 .f32) (z : Vec F S2048x512x64 .f32) (u : Vec F S512x2048 .f32) : ℕ → F .f32
  | 0 => Scalar.ofBits .f32 0x00000000#32
  | t + 1 => Scalar.addf (sumK x w z u t)
      (Scalar.addf (Scalar.addf (Scalar.ofBits .f32 0x00000000#32) (rK x w z u (2 * t))) (rK x w z u (2 * t + 1)))

variable (m : (ℓ : Loc nD τ sig) → Buf (Elt F) ℓ) (ρ : Dev nD → PrngReg)

/-- The blocks that each grid point sees. -/
theorem idx : ∀ t : Fin cfg0.N, win0_0.index t = ![0, t.val] ∧ win0_1.index t = ![t.val, 0, 0] ∧ win0_2.index t = ![t.val, 0, 0]
    ∧ win0_3.index t = ![0, 0] ∧ win0_4.index t = ![0, 0] :=
  (by decide +kernel : ∀ t : Fin grid0.N, _)

/-- The kernel's proposals are the given ones, reshaped. -/
theorem V_main_v0 (c : Dev nD) : V m c main_v0 = shapeCast S2048x32768 (m ((c : Thread nD τ).loc main_arg2)) shapeCasts_S2048x512x64_S2048x32768 := by
  show StableHlo.after _ _ _ = _
  simp only [hostOps0, List.flatten_cons, List.flatten_nil, List.append_nil]
  after_reads_simp
  try rfl

/-- The proposals of a step of a grid point. -/
theorem zOf_eq (c : Dev nD) (t : Fin cfg0.N) (o : Fin 2) :
    zOf o (iblk m c 0 t) = zK (m ((c : Thread nD τ).loc main_arg2)) (2 * t.val + o.val) := by
  have ht : t.val < 256 := lt_of_lt_of_eq t.isLt N_0
  funext i
  unfold zOf zK
  blk_simp [iblk]
  rw [V_main_v0]
  pointwise []
  blk_ext [idx t]

/-- The kernel's observations are the given ones, reshaped. -/
theorem V_main_v1 (c : Dev nD) : V m c main_v1 = shapeCast S512x1x64 (m ((c : Thread nD τ).loc main_arg0)) shapeCasts_S512x64_S512x1x64 := by
  show StableHlo.after _ _ _ = _
  simp only [hostOps0, List.flatten_cons, List.flatten_nil, List.append_nil]
  after_reads_simp
  try rfl

/-- The observation of a step of a grid point. -/
theorem xOf_eq (c : Dev nD) (t : Fin cfg0.N) (o : Fin 2) :
    xOf o (iblk m c 1 t) = xK (m ((c : Thread nD τ).loc main_arg0)) (2 * t.val + o.val) := by
  have ht : t.val < 256 := lt_of_lt_of_eq t.isLt N_0
  funext i
  unfold xOf xK
  blk_simp [iblk]
  rw [V_main_v1]
  pointwise []
  blk_ext [idx t]

/-- The kernel's draws are the given ones, reshaped. -/
theorem V_main_v2 (c : Dev nD) : V m c main_v2 = shapeCast S512x1x2048 (m ((c : Thread nD τ).loc main_arg3)) shapeCasts_S512x2048_S512x1x2048 := by
  show StableHlo.after _ _ _ = _
  simp only [hostOps0, List.flatten_cons, List.flatten_nil, List.append_nil]
  after_reads_simp
  try rfl

/-- The draws of a step of a grid point. -/
theorem uOf_eq (c : Dev nD) (t : Fin cfg0.N) (o : Fin 2) :
    uOf o (iblk m c 2 t) = uK (m ((c : Thread nD τ).loc main_arg3)) (2 * t.val + o.val) := by
  have ht : t.val < 256 := lt_of_lt_of_eq t.isLt N_0
  funext i
  unfold uOf uK
  blk_simp [iblk]
  rw [V_main_v2]
  pointwise []
  blk_ext [idx t]

/-- Every grid point sees the whole table of given particles. -/
theorem w_blk (c : Dev nD) (t : Fin cfg0.N) : iblk m c 3 t = m ((c : Thread nD τ).loc main_arg1) := by
  funext i
  blk_point [iblk, V, idx t]

/-- The arrays of the four arguments. -/
abbrev ax (c : Dev nD) : Vec F S512x64 .f32 := m ((c : Thread nD τ).loc main_arg0)
/-- The given particles. -/
abbrev aw (c : Dev nD) : Vec F S2048x64 .f32 := m ((c : Thread nD τ).loc main_arg1)
/-- The given proposals. -/
abbrev az (c : Dev nD) : Vec F S2048x512x64 .f32 := m ((c : Thread nD τ).loc main_arg2)
/-- The given draws. -/
abbrev au (c : Dev nD) : Vec F S512x2048 .f32 := m ((c : Thread nD τ).loc main_arg3)

/-- The particles after a grid point's two steps. -/
theorem twoW_eq (c : Dev nD) (t : Fin cfg0.N) :
    twoW (wK (ax m c) (aw m c) (az m c) (au m c) (2 * t.val)) (iblk m c 0 t) (iblk m c 1 t) (iblk m c 2 t)
      = wK (ax m c) (aw m c) (az m c) (au m c) (2 * (t.val + 1)) := by
  unfold twoW
  rw [zOf_eq, zOf_eq, xOf_eq, xOf_eq, uOf_eq, uOf_eq]
  rfl

/-- The sum of a grid point's two log-means. -/
theorem twoR_eq (c : Dev nD) (t : Fin cfg0.N) :
    Scalar.addf (sumK (ax m c) (aw m c) (az m c) (au m c) t.val)
      (twoR (wK (ax m c) (aw m c) (az m c) (au m c) (2 * t.val)) (iblk m c 0 t) (iblk m c 1 t) (iblk m c 2 t))
      = sumK (ax m c) (aw m c) (az m c) (au m c) (t.val + 1) := by
  unfold twoR
  rw [zOf_eq, zOf_eq, xOf_eq, xOf_eq, uOf_eq]
  rfl

/-- What each point leaves. -/
theorem outs (c : Dev nD) : ∀ (n : ℕ) (hn : n < cfg0.N), outsAt0 m c n hn
    = (fun _ => sumK (ax m c) (aw m c) (az m c) (au m c) (n + 1), wK (ax m c) (aw m c) (az m c) (au m c) (2 * (n + 1)))
  | 0, hn => by
    refine (outsAt0_A m c ⟨0, hn⟩ rfl).trans ?_
    rw [sout_A, out_A, w_blk]
    exact Prod.ext (funext fun _ => twoR_eq m c ⟨0, hn⟩) (twoW_eq m c ⟨0, hn⟩)
  | n + 1, hn => by
    have hN : n + 1 < 256 := lt_of_lt_of_eq hn N_0
    refine (outsAt0_B m c ⟨n + 1, hn⟩ (by show ¬ (n + 1) % 256 = 0; omega)).trans ?_
    rw [sout_B, out_B]
    have ih := outs c n (Nat.lt_of_succ_lt hn)
    have ih' : outsAt0 m c ((⟨n + 1, hn⟩ : Fin cfg0.N).val - 1) (Nat.lt_of_le_of_lt (Nat.sub_le _ _) hn) = _ := ih
    rw [ih']
    exact Prod.ext (funext fun _ => twoR_eq m c ⟨n + 1, hn⟩) (twoW_eq m c ⟨n + 1, hn⟩)

/-- The accumulated array after the last point. -/
theorem final (c : Dev nD) : (dats m 0 c).arrAt 4 (cfgs 0).N = (fun _ => sumK (ax m c) (aw m c) (az m c) (au m c) 256) := by
  refine (dats m 0 c).arrAt_eq_of_covers 4 _ (by decide +kernel) fun t hf y => ?_
  have hl : t.val = 255 := (by decide +kernel : ∀ t : Fin grid0.N, win0_4.flush t = true → t.val = 255) t hf
  blk_simp
  rw [after0_4, outs, hl]

/-- The result is the accumulated array's one entry. -/
theorem tail (V : Valuation τ sig (Elt F)) :
    StableHlo.after (List.flatten [hostOps1]) V (Proc.devRef .tc main_v4) = shapeCast S_ (V (Proc.devRef .tc main_v3)) shapeCasts_S1x1_S_ := by
  simp only [hostOps1, List.flatten_cons, List.flatten_nil, List.append_nil]
  after_reads_simp
  try rfl

/-- The kernel's run: its result is the total after the last point, and its arguments are unchanged. -/
theorem run : θ_run (defs (F := F)) (onTc (τ := τ) (main (F := F))) ⟨m, fun _ => 0, ρ⟩ fun r => ∀ c : Dev nD,
      r.2.mem ((c.tc : Thread nD τ).loc main_v4) = (fun _ => sumK (ax m c) (aw m c) (az m c) (au m c) 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (run_main m ρ)
  refine ⟨((h c).2 main_v4 (Pipeline.mem_restRefs_of main_v4 (by decide) (by decide))).trans ?_,
      (((h c).2 main_arg0 (Pipeline.mem_restRefs_of main_arg0 (by decide) (by decide))).trans (W_main_arg0 m (dats m) c)),
      ((h c).1 3).trans (((dats m 0 c).arrAt_in 3 rfl _).trans ((A_eq m c 3).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩
  unfold Pipeline.afterTail₀
  rw [tail]
  have e : Pipeline.withArrays spec0 c (V0 m c) (fun w => (dats m 0 c).arrAt w (cfgs 0).N) (Proc.devRef .tc main_v3)
      = (dats m 0 c).arrAt 4 (cfgs 0).N := Pipeline.withArrays_arr spec0 (by decide) c _ _ 4
  exact congrArg (fun a => shapeCast S_ a shapeCasts_S1x1_S_) (e.trans (final m c))

end Cert.Proof.KRun

end
-- ==== Proof.Consts.lean ====
/- The constants of both programs as numbers, and the small readings that the kernel's step and the reference's trip
   share: a comparison's bit as a number, and an order on small words. -/
module

public import Idealize.ShloMosaic.PureOps.Ideal
public import Idealize.ShloMosaic.Lib.Pointwise
public import Idealize.ShloMosaic.Lib.StableHlo.Predicate

@[expose] public section

noncomputable section

namespace Cert.Proof.Consts

open Idealize.ShloMosaic Idealize.ShloMosaic.TcCoe
open Idealize.ShloMosaic.StableHlo.Predicate (toInt_ofNat_small)

/-- A normal pattern of the 32-bit format, of its three fields. -/
theorem ofBits_normal {b : BitVec 32} {neg : Bool} {ex fr : ℕ} {r : ℝ} (hs : (b.extractLsb' 31 1 == 1#1) = neg)
    (hx : (b.extractLsb' 23 8).toNat = ex) (hf : (b.extractLsb' 0 23).toNat = fr)
    (h0 : ex ≠ 0) (h1 : ex ≠ 255)
    (hr : (if neg then (-1 : ℝ) else 1) * ((2 ^ 23 + fr : ℕ) : ℝ) * (2 : ℝ) ^ ((ex : ℤ) - 127 - 23) = r) :
    Ideal.ofBits .f32 b = (r : EReal) := by
  subst hs hx hf hr
  show Ideal.ieee 8 23 b = _
  unfold Ideal.ieee
  simp only []
  rw [if_neg (by simpa using h1), if_neg h0]
  norm_num

/-- The word of 1/2. -/
theorem half_eq : Ideal.ofBits .f32 0x3F000000#32 = ((1 / 2 : ℝ) : EReal) :=
  ofBits_normal (neg := false) (ex := 126) (fr := 0) (by decide) (by decide) (by decide) (by decide) (by decide) (by norm_num)
/-- The word of −1/2. -/
theorem neg_half_eq : Ideal.ofBits .f32 0xBF000000#32 = ((-1 / 2 : ℝ) : EReal) :=
  ofBits_normal (neg := true) (ex := 126) (fr := 0) (by decide) (by decide) (by decide) (by decide) (by decide) (by norm_num)
/-- The word of 32, half the number of coordinates. -/
theorem thirtytwo_eq : Ideal.ofBits .f32 0x42000000#32 = ((32 : ℝ) : EReal) :=
  ofBits_normal (neg := false) (ex := 132) (fr := 0) (by decide) (by decide) (by decide) (by decide) (by decide) (by norm_num)
/-- The word of 2048, the number of particles. -/
theorem count_eq : Ideal.ofBits .f32 0x45000000#32 = ((2048 : ℝ) : EReal) :=
  ofBits_normal (neg := false) (ex := 138) (fr := 0) (by decide) (by decide) (by decide) (by decide) (by decide) (by norm_num)
/-- The float nearest to 2π, as a fraction. -/
theorem two_pi_eq : Ideal.ofBits .f32 0x40C90FDB#32 = ((13176795 / 2097152 : ℝ) : EReal) :=
  ofBits_normal (neg := false) (ex := 129) (fr := 4788187) (by decide) (by decide) (by decide) (by decide) (by decide) (by norm_num)
/-- The word of minus infinity. -/
theorem bot_eq : Ideal.ofBits .f32 0xFF800000#32 = (⊥ : EReal) := by
  show Ideal.ieee 8 23 (0xFF800000#32 : BitVec 32) = _
  simp [Ideal.ieee]
/-- The word of plus infinity. -/
theorem top_eq : Ideal.ofBits .f32 0x7F800000#32 = (⊤ : EReal) := by
  show Ideal.ieee 8 23 (0x7F800000#32 : BitVec 32) = _
  simp [Ideal.ieee]
/-- The word of zero. -/
theorem zero_eq : Ideal.ofBits .f32 0x00000000#32 = (0 : EReal) := by
  show Ideal.ieee 8 23 (0x00000000#32 : BitVec 32) = _
  simp [Ideal.ieee]

/-- Of small numbers as words, the signed `≤` is the numbers'. -/
theorem cmpi_sle {a b : ℕ} (ha : a < 2 ^ 31) (hb : b < 2 ^ 31) :
    IntOp.cmpi .sle (BitVec.ofNat 32 a) (BitVec.ofNat 32 b) = BitVec.ofBool (decide (a ≤ b)) := by
  simp only [IntOp.cmpi, BitVec.sle_eq_decide, toInt_ofNat_small a ha, toInt_ofNat_small b hb, Nat.cast_le]

/-- Of small numbers as words, the signed `<` is the numbers'. -/
theorem cmpi_slt {a b : ℕ} (ha : a < 2 ^ 31) (hb : b < 2 ^ 31) :
    IntOp.cmpi .slt (BitVec.ofNat 32 a) (BitVec.ofNat 32 b) = BitVec.ofBool (decide (a < b)) := by
  simp only [IntOp.cmpi, BitVec.slt_eq_decide, toInt_ofNat_small a ha, toInt_ofNat_small b hb, Nat.cast_lt]

/-- Of small numbers as words, equality is the numbers'. -/
theorem cmpi_eq {a b : ℕ} (ha : a < 2 ^ 31) (hb : b < 2 ^ 31) :
    IntOp.cmpi .eq (BitVec.ofNat 32 a) (BitVec.ofNat 32 b) = BitVec.ofBool (decide (a = b)) := by
  have e : (BitVec.ofNat 32 a = BitVec.ofNat 32 b) ↔ a = b :=
    ⟨fun h => by have := congrArg BitVec.toInt h; rw [toInt_ofNat_small a ha, toInt_ofNat_small b hb] at this; exact_mod_cast this, fun h => by rw [h]⟩
  simp only [IntOp.cmpi]
  congr 1
  by_cases h : a = b
  · simp [h]
  · simp [h, e]

/-- A comparison's bit, widened and cast, is one or zero. -/
theorem sitofp_ofBool (b : Bool) :
    (FloatOps.sitofp .f32 (BitVec.setWidth 32 (BitVec.ofBool b)) : Ideal .f32) = if b then (1 : EReal) else 0 := by
  cases b <;> simp [FloatOps.sitofp]

end Cert.Proof.Consts

end
-- ==== Proof.LogWeights.lean ====
/- The log-weights of one time step. The reference's log-weight of a particle is the kernel's score plus a number
   that depends on the observation alone, or both are minus infinity; so the weights are the same and the log-means
   are. Every entry is any extended real. -/
module

public import proofs.«01_k».proof.Proof.Consts

@[expose] public section

noncomputable section

namespace Cert.Proof.LogWeights

open Idealize.ShloMosaic
open scoped BigOperators

/-- Half the logarithm of the constant for two pi, for each of the 64 coordinates. -/
def logC : ℝ := 32 * Real.log (13176795 / 2097152)

/-- The kernel's score of a particle `w`, a proposal `z` and an observation `x`. -/
def score (w z x : Fin 64 → EReal) : EReal :=
  ∑ d, z d * (w d + x d) - ((1 / 2 : ℝ) : EReal) * ∑ d, w d * w d - ((1 / 2 : ℝ) : EReal) * ∑ d, z d * z d

/-- The log-density of the difference of two rows. -/
def dens (a b : Fin 64 → EReal) : EReal := ((-1 / 2 : ℝ) : EReal) * ∑ d, (a d - b d) * (a d - b d) - (logC : EReal)

/-- The log-density of a row. -/
def dens0 (a : Fin 64 → EReal) : EReal := ((-1 / 2 : ℝ) : EReal) * ∑ d, a d * a d - (logC : EReal)

/-- The reference's log-weight. -/
def logw (w z x : Fin 64 → EReal) : EReal := dens z w + dens x z - dens0 z

variable {n : ℕ}

/-- A square is not negative. -/
theorem sq_nonneg (a : EReal) : 0 ≤ a * a := by
  induction a using EReal.rec with
  | bot => simp
  | top => simp
  | coe r => rw [← EReal.coe_mul]; exact_mod_cast mul_self_nonneg r

/-- A row is of reals, or the sum of its squares is infinite. -/
theorem real_or_top (f : Fin n → EReal) : (∃ r : Fin n → ℝ, f = fun d => (r d : EReal)) ∨ ∑ d, f d * f d = ⊤ := by
  by_cases h : ∀ d, f d ≠ ⊤ ∧ f d ≠ ⊥
  · exact .inl ⟨fun d => (f d).toReal, funext fun d => (EReal.coe_toReal (h d).1 (h d).2).symm⟩
  · right
    push Not at h
    obtain ⟨d, hd⟩ := h
    have e : f d * f d = ⊤ := by
      by_cases ht : f d = ⊤
      · rw [ht]; rfl
      · rw [hd ht]; rfl
    rw [← Finset.add_sum_erase _ _ (Finset.mem_univ d), e]
    exact EReal.top_add_of_ne_bot (ne_of_gt (lt_of_lt_of_le (EReal.bot_lt_zero) (Finset.sum_nonneg fun i _ => sq_nonneg _)))

/-- A sum of reals, inside the extended reals. -/
theorem coe_sum {ι : Type} (s : Finset ι) (r : ι → ℝ) : ∑ d ∈ s, (r d : EReal) = ((∑ d ∈ s, r d : ℝ) : EReal) := by
  classical
  induction s using Finset.induction_on with
  | empty => simp
  | insert a s ha ih => rw [Finset.sum_insert ha, Finset.sum_insert ha, ih, EReal.coe_add]

/-- A sum of squares of reals, inside the extended reals. -/
theorem sum_sq_coe (r : Fin n → ℝ) : ∑ d, ((r d : EReal) * (r d : EReal)) = ((∑ d, r d * r d : ℝ) : EReal) := by
  rw [← coe_sum]; exact Finset.sum_congr rfl fun d _ => (EReal.coe_mul _ _).symm

/-- Where one row is of reals and the other is not, the sum of the squares of their difference is infinite. -/
theorem sq_diff_top (a b : Fin n → EReal) (d : Fin n) (h : a d = ⊤ ∨ a d = ⊥ ∨ (b d = ⊤ ∨ b d = ⊥) ∧ ∃ r : ℝ, a d = r) :
    ∑ d, (a d - b d) * (a d - b d) = ⊤ := by
  rcases real_or_top (fun d => a d - b d) with ⟨r, hr⟩ | h'
  · exfalso
    have e := congrFun hr d
    rcases h with h | h | ⟨h | h, q, hq⟩
    · rw [h] at e
      induction hb : b d using EReal.rec with
      | bot => rw [hb] at e; exact absurd e (by simp [sub_eq_add_neg])
      | top => rw [hb] at e; exact absurd e (by simp [sub_eq_add_neg])
      | coe y => rw [hb] at e; exact absurd e (by simp [sub_eq_add_neg])
    · rw [h] at e; exact absurd e (by simp [sub_eq_add_neg])
    · rw [h, hq] at e; exact absurd e (by simp [sub_eq_add_neg])
    · rw [h, hq] at e; exact absurd e (by simp [sub_eq_add_neg])
  · exact h'

/-- Minus half of plus infinity. -/
theorem bot_of_top_sq {S : EReal} (h : S = ⊤) : ((-1 / 2 : ℝ) : EReal) * S = ⊥ := by
  rw [h]; exact EReal.coe_mul_top_of_neg (by norm_num)

/-- Half of plus infinity. -/
theorem top_of_top_sq {S : EReal} (h : S = ⊤) : ((1 / 2 : ℝ) : EReal) * S = ⊤ := by
  rw [h]; exact EReal.coe_mul_top_of_pos (by norm_num)

/-- Minus infinity absorbs a subtraction. -/
theorem bot_sub (a : EReal) : (⊥ : EReal) - a = ⊥ := by rw [sub_eq_add_neg, EReal.bot_add]

/-- Subtracting plus infinity leaves minus infinity. -/
theorem sub_top (a : EReal) : a - ⊤ = ⊥ := by rw [sub_eq_add_neg, EReal.neg_top, EReal.add_bot]

/-- The infinite coordinate of a row whose squares sum to infinity. -/
theorem exists_inf {f : Fin n → EReal} (h : ∑ d, f d * f d = ⊤) : ∃ d, f d = ⊤ ∨ f d = ⊥ := by
  by_contra hc
  push Not at hc
  have : f = fun d => ((f d).toReal : EReal) := funext fun d => (EReal.coe_toReal (hc d).1 (hc d).2).symm
  rw [this, sum_sq_coe] at h
  exact EReal.coe_ne_top _ h

/-- At an infinite distance the log-density is minus infinity. -/
theorem dens_bot {a b : Fin 64 → EReal} (h : ∑ d, (a d - b d) * (a d - b d) = ⊤) : dens a b = ⊥ := by
  rw [dens, bot_of_top_sq h, bot_sub]

/-- At an infinite distance from the origin the log-density is minus infinity. -/
theorem dens0_bot {a : Fin 64 → EReal} (h : ∑ d, a d * a d = ⊤) : dens0 a = ⊥ := by
  rw [dens0, bot_of_top_sq h, bot_sub]

/-- An observation with an infinite coordinate makes every log-weight minus infinity. -/
theorem logw_obs (w z : Fin 64 → EReal) {x : Fin 64 → EReal} (hx : ∑ d, x d * x d = ⊤) : logw w z x = ⊥ := by
  obtain ⟨d, hd⟩ := exists_inf hx
  have : dens x z = ⊥ := dens_bot (sq_diff_top x z d (by tauto))
  rw [logw, this, EReal.add_bot, bot_sub]

/-- At a real observation the log-weight is the score plus the observation's log-density, or both are minus infinity. -/
theorem logw_score (w z : Fin 64 → EReal) (x : Fin 64 → ℝ) :
    (∃ r : ℝ, score w z (fun d => (x d : EReal)) = r ∧ logw w z (fun d => (x d : EReal)) = ((r + (-1 / 2 * ∑ d, x d * x d - logC) : ℝ) : EReal))
      ∨ (score w z (fun d => (x d : EReal)) = ⊥ ∧ logw w z (fun d => (x d : EReal)) = ⊥) := by
  rcases real_or_top z with ⟨z, rfl⟩ | hz
  · rcases real_or_top w with ⟨w, rfl⟩ | hw
    · left
      refine ⟨∑ d, z d * (w d + x d) - 1 / 2 * ∑ d, w d * w d - 1 / 2 * ∑ d, z d * z d, ?_, ?_⟩
      · have e : ∑ d, ((z d : EReal) * ((w d : EReal) + (x d : EReal))) = ((∑ d, z d * (w d + x d) : ℝ) : EReal) := by
          rw [← coe_sum]; exact Finset.sum_congr rfl fun d _ => by rw [← EReal.coe_add, ← EReal.coe_mul]
        rw [score, e, sum_sq_coe, sum_sq_coe]
        push_cast
        rfl
      · have e (a b : Fin 64 → ℝ) : ∑ d, (((a d : EReal) - (b d : EReal)) * ((a d : EReal) - (b d : EReal)))
            = ((∑ d, (a d - b d) * (a d - b d) : ℝ) : EReal) := by
          rw [← coe_sum]; exact Finset.sum_congr rfl fun d _ => by rw [← EReal.coe_sub, ← EReal.coe_mul]
        rw [logw, dens, dens, dens0, e, e, sum_sq_coe]
        simp only [← EReal.coe_mul, ← EReal.coe_sub, ← EReal.coe_add]
        congr 1
        have e1 : ∑ d, (z d - w d) * (z d - w d) = ∑ d, z d * z d - 2 * ∑ d, z d * w d + ∑ d, w d * w d := by
          rw [Finset.mul_sum, ← Finset.sum_sub_distrib, ← Finset.sum_add_distrib]
          exact Finset.sum_congr rfl fun d _ => by ring
        have e2 : ∑ d, (x d - z d) * (x d - z d) = ∑ d, x d * x d - 2 * ∑ d, z d * x d + ∑ d, z d * z d := by
          rw [Finset.mul_sum, ← Finset.sum_sub_distrib, ← Finset.sum_add_distrib]
          exact Finset.sum_congr rfl fun d _ => by ring
        have e3 : ∑ d, z d * (w d + x d) = ∑ d, z d * w d + ∑ d, z d * x d := by
          rw [← Finset.sum_add_distrib]; exact Finset.sum_congr rfl fun d _ => by ring
        rw [e1, e2, e3]
        ring
    · right
      obtain ⟨d, hd⟩ := exists_inf hw
      constructor
      · rw [score, top_of_top_sq hw, sub_top, bot_sub]
      · rw [logw, dens_bot (sq_diff_top _ w d (.inr (.inr ⟨hd, z d, rfl⟩))), EReal.bot_add, bot_sub]
  · right
    obtain ⟨d, hd⟩ := exists_inf hz
    constructor
    · rw [score, top_of_top_sq hz, sub_top]
    · rw [logw, dens_bot (sq_diff_top z w d (by tauto)), EReal.bot_add, bot_sub]

/-- A column's weights: the exponentials of its entries less the greatest. -/
def wts (s : Fin 2048 → EReal) (k : Fin 2048) : EReal := Ideal.exp (s k - Finset.univ.sup s)

/-- Two columns, one the other plus `c` or both minus infinity at each place. -/
def Rel (c : ℝ) (s l : Fin 2048 → EReal) : Prop := ∀ k, (∃ r : ℝ, s k = r ∧ l k = ((r + c : ℝ) : EReal)) ∨ (s k = ⊥ ∧ l k = ⊥)

/-- The maximum of a column that is minus infinity throughout. -/
theorem sup_bot {s : Fin 2048 → EReal} (h : ∀ k, s k = ⊥) : Finset.univ.sup s = ⊥ := by
  rw [Finset.sup_eq_bot_iff]; exact fun k _ => h k

/-- Unless every entry is minus infinity, the greatest entries differ by `c`, the weights are the same reals, not
    negative, and their sum is positive. -/
theorem Rel.weights {c : ℝ} {s l : Fin 2048 → EReal} (h : Rel c s l) :
    ((∀ k, s k = ⊥) ∧ (∀ k, l k = ⊥)) ∨ ∃ (m : ℝ) (e : Fin 2048 → ℝ), Finset.univ.sup s = m ∧ Finset.univ.sup l = ((m + c : ℝ) : EReal)
      ∧ (∀ k, 0 ≤ e k) ∧ 0 < ∑ k, e k ∧ (∀ k, wts s k = e k) ∧ ∀ k, wts l k = e k := by
  obtain ⟨k0, -, hk0⟩ := Finset.exists_mem_eq_sup (Finset.univ : Finset (Fin 2048)) ⟨0, Finset.mem_univ _⟩ s
  rcases h k0 with ⟨m, hs, hl⟩ | ⟨hs, -⟩
  · right
    have hm : Finset.univ.sup s = (m : EReal) := hk0.trans hs
    have hle (k) : s k ≤ (m : EReal) := hm ▸ Finset.le_sup (f := s) (Finset.mem_univ k)
    have hml : Finset.univ.sup l = ((m + c : ℝ) : EReal) := by
      apply le_antisymm
      · refine Finset.sup_le fun k _ => ?_
        rcases h k with ⟨r, h1, h2⟩ | ⟨-, h2⟩
        · have := hle k
          rw [h1, EReal.coe_le_coe_iff] at this
          rw [h2, EReal.coe_le_coe_iff]
          linarith
        · rw [h2]; exact bot_le
      · rw [← hl]; exact Finset.le_sup (f := l) (Finset.mem_univ k0)
    have hex (k) : ∃ e : ℝ, 0 ≤ e ∧ wts s k = e ∧ wts l k = e := by
      rw [wts, wts, hm, hml]
      rcases h k with ⟨r, h1, h2⟩ | ⟨h1, h2⟩
      · refine ⟨Real.exp (r - m), (Real.exp_pos _).le, ?_, ?_⟩
        · rw [h1, ← EReal.coe_sub, Ideal.exp_coe]
        · rw [h2, ← EReal.coe_sub, Ideal.exp_coe, show r + c - (m + c) = r - m by ring]
      · refine ⟨0, le_rfl, ?_, ?_⟩
        · rw [h1, bot_sub, Ideal.exp_bot, EReal.coe_zero]
        · rw [h2, bot_sub, Ideal.exp_bot, EReal.coe_zero]
    choose e he0 hes hel using hex
    refine ⟨m, e, hm, hml, he0, ?_, hes, hel⟩
    refine Finset.sum_pos' (fun k _ => he0 k) ⟨k0, Finset.mem_univ _, ?_⟩
    have := hes k0
    rw [wts, hm, hs, ← EReal.coe_sub, Ideal.exp_coe, EReal.coe_eq_coe_iff] at this
    rw [← this]
    exact Real.exp_pos _
  · left
    have hb : ∀ k, s k = ⊥ := fun k => le_bot_iff.1 (by rw [← hs, ← hk0]; exact Finset.le_sup (f := s) (Finset.mem_univ k))
    refine ⟨hb, fun k => ?_⟩
    rcases h k with ⟨r, h1, -⟩ | ⟨-, h2⟩
    · rw [hb k] at h1; exact absurd h1.symm (EReal.coe_ne_bot r)
    · exact h2

/-- The kernel's log-mean, of the column of scores and the observation. -/
def meanK (s : Fin 2048 → EReal) (x : Fin 64 → EReal) : EReal :=
  Ideal.log (∑ k, wts s k) - ((Real.log 2048 : ℝ) : EReal) + Finset.univ.sup s
    + (((-1 / 2 : ℝ) : EReal) * ∑ d, x d * x d - (logC : EReal))

/-- The reference's log-mean, of the column of log-weights. -/
def meanR (l : Fin 2048 → EReal) : EReal := Ideal.log (Ideal.div (∑ k, wts l k) ((2048 : ℝ) : EReal)) + Finset.univ.sup l

/-- The kernel's log-mean of a column that is minus infinity throughout. -/
theorem meanK_bot {s : Fin 2048 → EReal} (x : Fin 64 → EReal) (h : ∀ k, s k = ⊥) : meanK s x = ⊥ := by
  rw [meanK, sup_bot h, EReal.add_bot, EReal.bot_add]

/-- The kernel's log-mean at an observation of infinite length. -/
theorem meanK_obs (s : Fin 2048 → EReal) {x : Fin 64 → EReal} (hx : ∑ d, x d * x d = ⊤) : meanK s x = ⊥ := by
  rw [meanK, bot_of_top_sq hx, bot_sub, EReal.add_bot]

/-- The reference's log-mean of a column that is minus infinity throughout. -/
theorem meanR_bot {l : Fin 2048 → EReal} (h : ∀ k, l k = ⊥) : meanR l = ⊥ := by
  rw [meanR, sup_bot h, EReal.add_bot]

/-- The two log-means of two columns one of which is the other plus the observation's log-density. -/
theorem mean_eq {s l : Fin 2048 → EReal} (x : Fin 64 → ℝ) {m : ℝ} {e : Fin 2048 → ℝ} (hm : Finset.univ.sup s = m)
    (hl : Finset.univ.sup l = ((m + (-1 / 2 * ∑ d, x d * x d - logC) : ℝ) : EReal)) (hS : 0 < ∑ k, e k)
    (hes : ∀ k, wts s k = e k) (hel : ∀ k, wts l k = e k) :
    meanK s (fun d => (x d : EReal)) = meanR l := by
  have h1 : ∑ k, wts s k = ((∑ k, e k : ℝ) : EReal) := by rw [← coe_sum]; exact Finset.sum_congr rfl fun k _ => hes k
  have h2 : ∑ k, wts l k = ((∑ k, e k : ℝ) : EReal) := by rw [← coe_sum]; exact Finset.sum_congr rfl fun k _ => hel k
  rw [meanK, meanR, h1, h2, hm, hl, sum_sq_coe, Ideal.div_coe (by norm_num), ← EReal.coe_mul, ← EReal.coe_mul, Ideal.log_coe, Ideal.log_coe,
    if_neg (not_le.2 hS), if_neg (not_le.2 (by positivity)), mul_one_div, Real.log_div hS.ne' (by norm_num)]
  simp only [← EReal.coe_mul, ← EReal.coe_sub, ← EReal.coe_add]
  congr 1
  ring

end Cert.Proof.LogWeights

end
-- ==== Proof.Resample.lean ====
/- Drawing one particle. The kernel adds every particle times a difference of two comparisons of the scaled draw with
   running sums of the weights, the last sum replaced by infinity; the reference counts the normalised running sums
   below the draw, caps the count at the last place, and takes that particle. The difference is one at that place and
   zero elsewhere, so the two agree at every positive draw. -/
module

public import proofs.«01_k».proof.Proof.LogWeights

@[expose] public section

noncomputable section

namespace Cert.Proof.Resample

open Idealize.ShloMosaic Cert.Proof.LogWeights
open scoped BigOperators

/-- A column continued by zeros. -/
def ext (E : Fin 2048 → EReal) (i : ℕ) : EReal := if h : i < 2048 then E ⟨i, h⟩ else 0

/-- The sum of the first `n` entries. -/
def pre (E : Fin 2048 → EReal) (n : ℕ) : EReal := ∑ i ∈ Finset.range n, ext E i

/-- The kernel's running sum through place `j`, infinity at the last. -/
def upTo (E : Fin 2048 → EReal) (j : ℕ) : EReal := if j = 2047 then ⊤ else pre E (j + 1)

/-- Whether a threshold is at most a running sum, as a number. -/
def ind (t c : EReal) : EReal := if t ≤ c then 1 else 0

/-- The kernel's factor of particle `j`. -/
def coef (E : Fin 2048 → EReal) (t : EReal) (j : ℕ) : EReal := ind t (upTo E j) - ind t (pre E j)

/-- The normalised weights. -/
def norm (E : Fin 2048 → EReal) (k : Fin 2048) : EReal := Ideal.div (E k) (∑ i, E i)

/-- How many normalised running sums are below the draw. -/
def below (E : Fin 2048 → EReal) (u : EReal) : ℕ := (Finset.univ.filter fun j : Fin 2048 => pre (norm E) (j.val + 1) < u).card

/-- The place drawn. -/
def place (E : Fin 2048 → EReal) (u : EReal) : Fin 2048 := ⟨min (below E u) 2047, by omega⟩

/-- A property that passes to smaller numbers holds exactly below the number of places where it holds. -/
theorem iff_lt_card {n : ℕ} (Q : ℕ → Prop) [DecidablePred Q] (hQ : ∀ i j, i ≤ j → Q j → Q i) (j : ℕ) (hj : j < n) :
    Q j ↔ j < (Finset.univ.filter fun i : Fin n => Q i.val).card := by
  constructor
  · intro h
    have hs : Finset.Iic (⟨j, hj⟩ : Fin n) ⊆ Finset.univ.filter fun i : Fin n => Q i.val := fun i hi =>
      Finset.mem_filter.2 ⟨Finset.mem_univ _, hQ _ _ (Fin.le_def.1 (Finset.mem_Iic.1 hi)) h⟩
    have := Finset.card_le_card hs
    rw [Fin.card_Iic] at this
    exact this
  · intro h
    by_contra hn
    have hs : (Finset.univ.filter fun i : Fin n => Q i.val) ⊆ Finset.Iio (⟨j, hj⟩ : Fin n) := fun i hi => by
      rw [Finset.mem_Iio]
      by_contra hc
      exact hn (hQ _ _ (Fin.le_def.1 (not_lt.1 hc)) (Finset.mem_filter.1 hi).2)
    have := Finset.card_le_card hs
    rw [Fin.card_Iio] at this
    exact absurd h (not_lt.2 this)

/-- The real running sum. -/
def preR (e : Fin 2048 → ℝ) (n : ℕ) : ℝ := ∑ i ∈ Finset.range n, if h : i < 2048 then e ⟨i, h⟩ else 0

/-- Running sums of real entries are real. -/
theorem pre_coe {E : Fin 2048 → EReal} {e : Fin 2048 → ℝ} (h : ∀ k, E k = e k) (n : ℕ) : pre E n = preR e n := by
  rw [pre, preR, ← coe_sum]
  refine Finset.sum_congr rfl fun i _ => ?_
  rw [ext]
  split
  · exact h _
  · rfl

/-- Running sums of entries that are not negative grow. -/
theorem preR_mono {e : Fin 2048 → ℝ} (h0 : ∀ k, 0 ≤ e k) : Monotone (preR e) := by
  intro a b hab
  refine Finset.sum_le_sum_of_subset_of_nonneg (Finset.range_mono hab) fun i _ _ => ?_
  split
  · exact h0 _
  · exact le_rfl

/-- A sum of real entries is real. -/
theorem sum_coe {E : Fin 2048 → EReal} {e : Fin 2048 → ℝ} (h : ∀ k, E k = e k) : ∑ i, E i = ((∑ i, e i : ℝ) : EReal) := by
  rw [← coe_sum]; exact Finset.sum_congr rfl fun k _ => h k

variable {E : Fin 2048 → EReal} {e : Fin 2048 → ℝ} {u : EReal}

/-- A normalised running sum is below the draw exactly where the running sum is below the scaled draw. -/
theorem below_iff (h : ∀ k, E k = e k) (hS : 0 < ∑ k, e k) (n : ℕ) :
    pre (norm E) n < u ↔ ¬ u * ∑ i, E i ≤ pre E n := by
  have hn (k) : norm E k = ((e k / ∑ i, e i : ℝ) : EReal) := by
    rw [norm, h k, sum_coe h, Ideal.div_coe hS.ne', ← EReal.coe_mul, mul_one_div]
  have e1 : preR (fun k => e k / ∑ i, e i) n = preR e n / ∑ i, e i := by
    rw [preR, preR, Finset.sum_div]
    refine Finset.sum_congr rfl fun i _ => ?_
    split
    · rfl
    · rw [zero_div]
  rw [pre_coe hn, e1, pre_coe h, sum_coe h, EReal.coe_div, ← not_le, not_iff_not,
    EReal.le_div_iff_mul_le (by exact_mod_cast hS) (EReal.coe_ne_top _)]

/-- The indicator of a threshold that is reached. -/
theorem ind_pos {t c : EReal} (h : t ≤ c) : ind t c = 1 := if_pos h
/-- The indicator of a threshold that is not reached. -/
theorem ind_neg {t c : EReal} (h : ¬ t ≤ c) : ind t c = 0 := if_neg h

/-- The factor is one at the place drawn and zero elsewhere. -/
theorem coef_eq (h : ∀ k, E k = e k) (h0 : ∀ k, 0 ≤ e k) (hS : 0 < ∑ k, e k) (hu : 0 < u) (j : ℕ) (hj : j < 2048) :
    coef E (u * ∑ i, E i) j = if j = (place E u).val then 1 else 0 := by
  have hQ : ∀ j, j < 2048 → (¬ u * ∑ i, E i ≤ pre E (j + 1) ↔ j < below E u) := by
    intro j hj
    rw [← below_iff h hS]
    refine iff_lt_card (fun j => pre (norm E) (j + 1) < u) (fun a b hab hb => ?_) j hj
    rw [below_iff h hS] at hb ⊢
    refine fun hc => hb (hc.trans ?_)
    rw [pre_coe h, pre_coe h, EReal.coe_le_coe_iff]
    exact preR_mono h0 (by omega)
  have hz : ¬ u * ∑ i, E i ≤ pre E 0 := by
    rw [pre, Finset.sum_range_zero, not_le, sum_coe h]
    exact EReal.mul_pos hu (by exact_mod_cast hS)
  have hlow : u * ∑ i, E i ≤ pre E j ↔ below E u < j := by
    rcases j with _ | j
    · exact ⟨fun hc => absurd hc hz, fun hc => absurd hc (Nat.not_lt_zero _)⟩
    · have := hQ j (by omega)
      rw [← not_iff_not, this]
      omega
  have hup : u * ∑ i, E i ≤ upTo E j ↔ (j = 2047 ∨ below E u ≤ j) := by
    rw [upTo]
    split
    · next hc => exact ⟨fun _ => .inl hc, fun _ => le_top⟩
    · next hc =>
      have := hQ j hj
      rw [← not_iff_not, this]
      omega
  have hp : (place E u).val = min (below E u) 2047 := rfl
  rw [coef, hp]
  by_cases h1 : u * ∑ i, E i ≤ upTo E j
  · rw [ind_pos h1]
    by_cases h2 : u * ∑ i, E i ≤ pre E j
    · rw [ind_pos h2, if_neg (by rw [hlow] at h2; omega)]
      rw [← EReal.coe_one, ← EReal.coe_sub, sub_self, EReal.coe_zero]
    · rw [ind_neg h2, if_pos (by rw [hlow] at h2; rw [hup] at h1; omega), sub_zero]
  · rw [ind_neg h1, ind_neg (by rw [hlow]; rw [hup] at h1; omega), if_neg (by rw [hup] at h1; omega), sub_zero]

/-- The kernel's sum is the particle drawn. -/
theorem drawn_eq (h : ∀ k, E k = e k) (h0 : ∀ k, 0 ≤ e k) (hS : 0 < ∑ k, e k) (hu : 0 < u) (v : Fin 2048 → EReal) :
    ∑ j ∈ Finset.range 2048, coef E (u * ∑ i, E i) j * ext v j = v (place E u) := by
  rw [Finset.sum_eq_single (place E u).val]
  · rw [coef_eq h h0 hS hu _ (place E u).isLt, if_pos rfl, one_mul, ext, dif_pos (place E u).isLt]
  · intro j hj hne
    rw [coef_eq h h0 hS hu _ (Finset.mem_range.1 hj), if_neg hne, zero_mul]
  · intro hc
    exact absurd (Finset.mem_range.2 (place E u).isLt) hc

end Cert.Proof.Resample

end
-- ==== Proof.KRead.lean ====
/- One time step of the kernel, read at an index over the extended reals: the scores, their maximum, the weights, the
   log-mean, the running sums of the weights, and the particles drawn. -/
module

public import proofs.«01_k».proof.Proof.KStep
public import proofs.«01_k».proof.Proof.Resample
public import Idealize.ShloMosaic.Lib.Pointwise

@[expose] public section

set_option maxRecDepth 16384

noncomputable section

namespace Cert.Proof.KRead

open Idealize.ShloMosaic Idealize.ShloMosaic.TcCoe Idealize.SL.Sem
open Cert.KernelIdeal Cert.KernelIdeal.Gen
open Cert.Proof.KStep Cert.Proof.Consts Cert.Proof.LogWeights Cert.Proof.Resample
open scoped BigOperators

variable (w z : FVec Ideal S2048x64 .f32) (x : FVec Ideal S1x64 .f32) (s e u t : FVec Ideal S2048x1 .f32) (S p : Ideal .f32)

/-- A column as a function of its place. -/
def col (s : FVec Ideal S2048x1 .f32) (k : Fin 2048) : EReal := s (ix2 k (0 : Fin 1))
/-- A particle's row. -/
def row (w : FVec Ideal S2048x64 .f32) (k : Fin 2048) : Fin 64 → EReal := fun d => w (ix2 k d)
/-- The observation's row. -/
def obs (x : FVec Ideal S1x64 .f32) : Fin 64 → EReal := fun d => x (ix2 (0 : Fin 1) d)

/-- The column of scores. -/
def sc (k : Fin 2048) : EReal := score (row w k) (row z k) (obs x)

/-- A particle's score. -/
theorem scores_at (k : Fin 2048) : scores w z x (ix2 k (0 : Fin 1)) = sc w z x k := by
  pointwise [scores, rowSum, half]
  rw [half_eq]
  rfl

/-- The maximum of a column. -/
theorem top_at : top s = Finset.univ.sup (col s) := by
  pointwise [top]
  rw [bot_eq]
  refine le_antisymm (Finset.sup_le fun y _ => ?_) (Finset.sup_le fun k _ => ?_)
  · exact Finset.le_sup (f := col s) (Finset.mem_univ y.1)
  · exact Finset.le_sup (f := fun y : Fin 2048 × Fin 1 => s (ix2 y.1 (0 : Fin 1))) (Finset.mem_univ (k, 0))

/-- The sum of a column. -/
theorem total_at : total s = ∑ k, col s k := by
  pointwise [total]
  simp only [Finset.univ_unique, Finset.sum_singleton]
  rfl

/-- The weights of a column of scores. -/
theorem weights_at (k : Fin 2048) : weights s (ix2 k (0 : Fin 1)) = wts (col s) k := by
  pointwise [weights]
  rw [top_at]
  rfl

/-- The kernel's logarithm of the number of particles. -/
theorem log_k : (Named.named (F := Ideal) κ "log_k" (φ := .f32) 0x40F3FCE1#32 : EReal) = ((Real.log 2048 : ℝ) : EReal) := rfl

/-- The kernel's constant 32 · log 2π. -/
theorem half_d : (Named.named (F := Ideal) κ "half_d_log_two_pi" (φ := .f32) 0x426B3F8E#32 : EReal) = (logC : EReal) := rfl

/-- The log-mean, from the sum of the weights and the maximum. -/
theorem logMean_at : logMean x p S = Ideal.log S - ((Real.log 2048 : ℝ) : EReal) + p
    + (((-1 / 2 : ℝ) : EReal) * ∑ d, obs x d * obs x d - (logC : EReal)) := by
  pointwise [logMean, sqObs]
  rw [neg_half_eq, log_k, half_d]
  simp only [Finset.univ_unique, Finset.sum_singleton]
  rfl

/-- A step's log-mean. -/
theorem stepR_at : stepR w z x = meanK (sc w z x) (obs x) := by
  have e1 : col (scores w z x) = sc w z x := funext fun k => scores_at w z x k
  have e2 : col (weights (scores w z x)) = wts (sc w z x) := funext fun k => (weights_at _ k).trans (by rw [e1])
  rw [stepR, logMean_at, top_at, total_at, e1, e2]
  rfl

/-- The running sums within a block of 128 places. -/
theorem runs_at (b : Fin 16) (l : Fin 128) :
    runs e (ix2 b l) = ∑ i ∈ Finset.range (l.val + 1), ext (col e) (128 * b.val + i) := by
  have hb := b.isLt
  have hl := l.isLt
  have g : runs e (ix2 b l) = ∑ i : Fin 128, (fun i : ℕ => if i ≤ l.val then ext (col e) (128 * b.val + i) else 0) i.val := by
    pointwise [runs]
    refine Finset.sum_congr rfl fun i _ => ?_
    have hi := i.isLt
    rw [cmpi_sle (by omega) (by omega), sitofp_ofBool]
    rw [ext, dif_pos (by omega)]
    by_cases h : i.val ≤ l.val
    · rw [if_pos (decide_eq_true h), if_pos h, mul_one]
      exact congrArg (fun q => e (ix2 q (0 : Fin 1))) (Fin.ext (by show b.val * 128 + i.val = 128 * b.val + i.val; omega))
    · rw [if_neg (by simpa using h), if_neg h, mul_zero]
  rw [g, Fin.sum_univ_eq_sum_range (fun i : ℕ => if i ≤ l.val then ext (col e) (128 * b.val + i) else 0) 128, ← Finset.sum_filter]
  refine Finset.sum_congr (Finset.ext fun i => ?_) fun _ _ => rfl
  rw [Finset.mem_filter, Finset.mem_range, Finset.mem_range]
  omega

/-- The sum through a place is the sum of the whole blocks before its block and of its block through it. -/
theorem pre_block (E : Fin 2048 → EReal) (b l : ℕ) :
    pre E (128 * b + l) = pre E (128 * b) + ∑ i ∈ Finset.range l, ext E (128 * b + i) := by
  rw [pre, pre, Finset.sum_range_add]

/-- The sum of all the blocks before a block. -/
theorem offs_at (b : Fin 16) : offs e (ix2 b (0 : Fin 1)) = pre (col e) (128 * b.val) := by
  have hb := b.isLt
  have g : offs e (ix2 b (0 : Fin 1)) = ∑ i : Fin 16, (fun i : ℕ => if i < b.val then ∑ r ∈ Finset.range 128, ext (col e) (128 * i + r) else 0) i.val := by
    pointwise [offs]
    refine Finset.sum_congr rfl fun i _ => ?_
    have hi := i.isLt
    rw [cmpi_slt (by omega) (by omega), sitofp_ofBool, runs_at]
    by_cases h : i.val < b.val
    · rw [if_pos (decide_eq_true h), if_pos h, one_mul]
      rfl
    · rw [if_neg (by simpa using h), if_neg h, zero_mul]
  rw [g, Fin.sum_univ_eq_sum_range (fun i : ℕ => if i < b.val then ∑ r ∈ Finset.range 128, ext (col e) (128 * i + r) else 0) 16, ← Finset.sum_filter]
  have f : (Finset.range 16).filter (fun i => i < b.val) = Finset.range b.val := by
    ext i
    rw [Finset.mem_filter, Finset.mem_range, Finset.mem_range]
    omega
  rw [f]
  generalize b.val = n
  induction n with
  | zero => rfl
  | succ n ih => rw [Finset.sum_range_succ, ih, ← pre_block]; rfl

/-- The running sums of the whole column, the last one raised to infinity. -/
theorem cums_at (b : Fin 16) (l : Fin 128) : cums e (ix2 b l) = upTo (col e) (128 * b.val + l.val) := by
  have hb := b.isLt
  have hl := l.isLt
  pointwise [cums]
  rw [cmpi_eq (b := 15) (by omega) (by omega), cmpi_eq (b := 127) (by omega) (by omega), top_eq, runs_at, offs_at]
  have hs : ∑ i ∈ Finset.range (l.val + 1), ext (col e) (128 * b.val + i) + pre (col e) (128 * b.val) = pre (col e) (128 * b.val + l.val + 1) := by
    rw [add_comm, ← pre_block]
    rfl
  rw [hs, upTo]
  by_cases h : b.val = 15 ∧ l.val = 127
  · rw [if_pos (by omega), decide_eq_true h.1, decide_eq_true h.2]
    rfl
  · rw [if_neg (by omega)]
    by_cases h1 : b.val = 15
    · rw [decide_eq_true h1, decide_eq_false fun h2 => h ⟨h1, h2⟩]
      rfl
    · rw [decide_eq_false h1]
      cases decide (l.val = 127) <;> rfl

/-- A block's row moved by one place, with what stands before it in front. -/
theorem shifted_at (r : FVec Ideal S1x128 .f32) (l : Fin 128) :
    shifted p r (ix2 (0 : Fin 1) l) = if h : l.val < 1 then p else r (ix2 (0 : Fin 1) (⟨l.val - 1, by omega⟩ : Fin 128)) := by
  pointwise [shifted]

/-- Whether an entry of the row reaches the threshold, as one or zero. -/
theorem above_at (r : FVec Ideal S1x128 .f32) (k : Fin 2048) (l : Fin 128) :
    above r t (ix2 k l) = ind (col t k) (r (ix2 (0 : Fin 1) l)) := by
  pointwise [above]
  rw [sitofp_ofBool, ind]
  by_cases h : t (ix2 k (0 : Fin 1)) ≤ r (ix2 (0 : Fin 1) l)
  · rw [if_pos (decide_eq_true h)]
    exact (if_pos h).symm
  · rw [if_neg (by simpa using h)]
    exact (if_neg h).symm

/-- What stands before a block. -/
theorem before_at (b : Fin 16) : before (offs e) b = pre (col e) (128 * b.val) := by
  unfold before
  split
  · next h =>
    rw [h]
    exact zero_eq
  · pointwise []
    exact offs_at e b

/-- A block's row of the running sums. -/
theorem slice_at (c : FVec Ideal S16x128 .f32) (n : ℕ) (h : n < 16) (l : Fin 128) :
    extractStridedSlice S1x128 ![n, 0] c (fits_row ⟨n, h⟩) (ix2 (0 : Fin 1) l) = c (ix2 (⟨n, h⟩ : Fin 16) l) := by
  pointwise []

/-- One block's contribution, where the block's row and what stands before it are the kernel's running sums. -/
theorem part_at (acc : FVec Ideal S2048x64 .f32) (n : ℕ) (h : n < 16) (i : Fin 2048) (d : Fin 64) :
    part acc (before (offs e) ⟨n, h⟩) (extractStridedSlice S1x128 ![n, 0] (cums e) (fits_row ⟨n, h⟩)) t
      (extractStridedSlice S128x64 ![128 * n, 0] w (fits_blk ⟨n, h⟩)) (ix2 i d)
      = acc (ix2 i d) + ∑ l ∈ Finset.range 128, coef (col e) (col t i) (128 * n + l) * ext (fun k => row w k d) (128 * n + l) := by
  rw [← Fin.sum_univ_eq_sum_range (fun l => coef (col e) (col t i) (128 * n + l) * ext (fun k => row w k d) (128 * n + l))]
  pointwise [part]
  refine congrArg _ (Finset.sum_congr rfl fun l _ => ?_)
  have hl := l.isLt
  rw [above_at, above_at, shifted_at, before_at, slice_at _ n h, cums_at, coef]
  have hw : ext (fun k => row w k d) (128 * n + l.val) = w (ix2 (⟨128 * n + l.val, by omega⟩ : Fin 2048) d) := by
    rw [ext, dif_pos (by omega)]
    rfl
  rw [hw]
  refine congrArg (fun q => (ind (col t i) (upTo (col e) (128 * n + l.val)) - ind (col t i) q) * w (ix2 (⟨128 * n + l.val, by omega⟩ : Fin 2048) d)) ?_
  by_cases h1 : l.val < 1
  · rw [dif_pos h1, show l.val = 0 by omega]
    rfl
  · rw [dif_neg h1, slice_at _ n h, cums_at, upTo, if_neg (by show ¬ 128 * n + (l.val - 1) = 2047; omega)]
    exact congrArg (pre (col e)) (by show 128 * n + (l.val - 1) + 1 = 128 * n + l.val; omega)

/-- The particles drawn from the first `n` blocks. -/
theorem drawn_at (i : Fin 2048) (d : Fin 64) : ∀ (n : ℕ) (h : n ≤ 16), drawn w (offs e) (cums e) t n h (ix2 i d)
    = ∑ j ∈ Finset.range (128 * n), coef (col e) (col t i) j * ext (fun k => row w k d) j
  | 0, _ => by
    rw [Finset.range_zero, Finset.sum_empty]
    exact zero_eq
  | n + 1, h => by
    rw [drawn, part_at, drawn_at i d n (by omega), Nat.mul_succ, Finset.sum_range_add]

/-- The particles after a step. -/
theorem stepW_at (i : Fin 2048) (d : Fin 64) : stepW w z x u (ix2 i d)
    = ∑ j ∈ Finset.range 2048, coef (wts (sc w z x)) (col u i * ∑ k, wts (sc w z x) k) j * ext (fun k => row w k d) j := by
  have e1 : col (scores w z x) = sc w z x := funext fun k => scores_at w z x k
  have e2 : col (weights (scores w z x)) = wts (sc w z x) := funext fun k => (weights_at _ k).trans (by rw [e1])
  have e3 : col (scaled u (total (weights (scores w z x)))) i = col u i * ∑ k, wts (sc w z x) k := by
    have : col (scaled u (total (weights (scores w z x)))) i = col u i * total (weights (scores w z x)) := rfl
    rw [this, total_at, e2]
  rw [stepW, drawn_at, e2, e3]

end Cert.Proof.KRead

end
-- ==== Proof.RefRun.lean ====
/- The reference's run, stated over one trip of its loop: from the memory the run starts with, the loop's carried
   values go from `init` by `step`, five hundred and twelve times, and the result is the sum of the last state's
   row of log-means. -/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The carried buffers of `V0` hold the state `s`, and its counter the number `j`. -/
structure Carries (V0 : Valuation τ sig (Elt F)) (s : State F) (j : ℕ) : Prop where
  state : s = { main_v27_5 := V0 (Proc.devRef .tc main_v27_5), main_v27_6 := V0 (Proc.devRef .tc main_v27_6),
                main_v27_0 := V0 (Proc.devRef .tc main_v27_0), main_v27_1 := V0 (Proc.devRef .tc main_v27_1),
                main_v27_2 := V0 (Proc.devRef .tc main_v27_2), main_v27_3 := V0 (Proc.devRef .tc main_v27_3) }
  count : V0 (Proc.devRef .tc main_v27_4) = constantI S_ 32 (BitVec.ofNat 32 j)

variable {V0 : Valuation τ sig (Elt F)} {s : State F} {j : ℕ}

/-- The particles less their means, as the trip computes them. -/
theorem trip_diff (h : Carries V0 s j) : res_main_while0b_v33 V0 = b13 j s := by
  obtain ⟨rfl, hc⟩ := h
  unfold res_main_while0b_v33 b13 b3 b2
  rw [hc]
  rfl

/-- The log-weights. -/
theorem trip_logw (h : Carries V0 s j) : res_main_while0b_v44 V0 = b28 j s := by
  unfold res_main_while0b_v44 b28 b27 b26 b19 b16 b14
  rw [trip_diff h]
  obtain ⟨rfl, hc⟩ := h
  rw [hc]
  unfold b6 b9 b25
  rfl

/-- Their maximum. -/
theorem trip_max (h : Carries V0 s j) : res_main_while0b_v45 V0 = b30 j s := by
  unfold res_main_while0b_v45 b30
  rw [trip_logw h]
  rfl

/-- The weights before they are normalised. -/
theorem trip_exp (h : Carries V0 s j) : res_main_while0b_v58 V0 = b47 j s := by
  unfold res_main_while0b_v58 b47 b46 b45 b44 b43 b41
  rw [trip_logw h]
  rfl

/-- The indices drawn. -/
theorem trip_idx (h : Carries V0 s j) : res_main_while0b_v71 V0 = b71 j s := by
  unfold res_main_while0b_v71 b71 b68 b63 b61 b60 b58 b59 b56 b57 b55 b52 b51 b50 b49
  rw [trip_exp h]
  obtain ⟨rfl, hc⟩ := h
  rw [hc]
  unfold b12 b11
  rfl

/-- The particles after one trip are those of `step`. -/
theorem trip_particles (h : Carries V0 s j) : Value.step_main_v27_5 V0 = (step j s).main_v27_5 := by
  rw [Cert.ReferenceIdeal.Step.step_main_v27_5]
  unfold Value.step_main_v27_5 b80 b79 b78 b77 b74
  rw [trip_idx h]
  obtain ⟨rfl, hc⟩ := h
  rfl

/-- The row of log-means after one trip is that of `step`. -/
theorem trip_logs (h : Carries V0 s j) : Value.step_main_v27_6 V0 = (step j s).main_v27_6 := by
  rw [Cert.ReferenceIdeal.Step.step_main_v27_6]
  unfold Value.step_main_v27_6 b82 b81 b39 b38 b37 b35 b33 b32 b31
  rw [trip_max h, trip_logw h]
  obtain ⟨rfl, hc⟩ := h
  rw [hc]
  rfl

/-- The counter after one trip is the next number. -/
theorem trip_count (h : Carries V0 s j) : Value.step_main_v27_4 V0 = constantI S_ 32 (BitVec.ofNat 32 (j + 1)) := by
  unfold step_main_v27_4
  rw [h.count]
  funext i
  show BitVec.ofNat 32 j + 1#32 = BitVec.ofNat 32 (j + 1)
  simp only [BitVec.ofNat_add]

/-- One trip of the loop goes from a valuation that carries a state to one that carries the next. -/
theorem carries_step (h : Carries V0 s j) : Carries (STEP V0) (step j s) (j + 1) := by
  refine ⟨?_, (STEP_main_v27_4 V0).trans (trip_count h)⟩
  rw [STEP_main_v27_5, STEP_main_v27_6, STEP_main_v27_0, STEP_main_v27_1, STEP_main_v27_2, STEP_main_v27_3,
    trip_particles h, trip_logs h, h.state]
  rfl

variable (m : (ℓ : Loc nD τ sig) → Buf (Elt F) ℓ)

/-- The state the first trip starts from. -/
abbrev start (c : Dev nD) : State F :=
  init (m ((c.tc : Thread nD τ).loc main_arg1)) (m ((c.tc : Thread nD τ).loc main_arg3))
    (m ((c.tc : Thread nD τ).loc main_arg0)) (m ((c.tc : Thread nD τ).loc main_arg2))

/-- The state after `k` trips. -/
def after (c : Dev nD) : ℕ → State F
  | 0 => start m c
  | k + 1 => step k (after c k)

set_option maxRecDepth 65536 in
/-- Before the loop. -/
theorem carries_start (c : Dev nD) : Carries (entryContents preI m c) (start m c) 0 := by
  constructor
  · simp only [entryContents, afterL_cons, afterL_nil]
    after_reads_simp
    rfl
  · simp only [entryContents, afterL_cons, afterL_nil]
    after_reads_simp
    rfl

/-- After `k` trips. -/
theorem carries_after (c : Dev nD) : ∀ k, Carries (STEP^[k] (entryContents preI m c)) (after m c k) k
  | 0 => carries_start m c
  | k + 1 => by
    rw [Function.iterate_succ_apply']
    exact carries_step (carries_after c k)

set_option maxRecDepth 65536 in
/-- The reference's run: its result is the sum of the log-means after 512 trips, and its arguments are unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v28) = R_main_v28 (after m c 512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := carries_after m c 512
    ⟨(h c).1.trans (by rw [hk.state]; unfold out_main_v28 R_main_v28; with_reducible rfl), (h c).2.1, (h c).2.2.1, (h c).2.2.2.1, (h c).2.2.2.2⟩) (Value.run m ρ)

end Cert.Proof.RefRun

end
-- ==== Proof.Cumsum.lean ====
/- A running sum of a column, read at one place. -/
module

public import proofs.«01_k».proof.Proof.Resample
public import Idealize.ShloMosaic.Lib.Routing.Ops

@[expose] public section

noncomputable section

namespace Cert.Proof.Cumsum

open Idealize.ShloMosaic Idealize.ShloMosaic.TcCoe Idealize.ShloMosaic.Routing Cert.Proof.Resample
open scoped BigOperators

/-- A fold of additions along a list is the start plus the list's sum. -/
theorem foldl_plus {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window that ends at place `j` holds the entries through `j`, padded with zeros. -/
theorem window_sum (f : ℕ → EReal) (j : ℕ) (hj : j < 2048) :
    ∑ n ∈ Finset.range 2048, (if 2047 ≤ j + n then f (j + n - 2047) else 0) = ∑ i ∈ Finset.range (j + 1), f i := by
  rw [← Finset.sum_filter]
  refine Finset.sum_bij' (fun n _ => j + n - 2047) (fun i _ => i + 2047 - j) ?_ ?_ ?_ ?_ ?_
  all_goals simp only [Finset.mem_filter, Finset.mem_range]
  all_goals intros
  all_goals first | omega | rfl | trivial

/-- Place `n` of the only axis of a window of 2048 places is the number `n`. -/
theorem offset_val (n : Fin (shape1 2048).numel) (a : Fin 1) : ((shape1 2048).rowMajor.symm n a).val = n.val := by
  rw [Subsingleton.elim a 0, symm1]
  rfl

/-- The running sum at place `j`: the window that ends there starts 2047 places earlier, and what it reads before place 0 is the padding. -/
theorem cumsum_at (x : (shape1 2048).Idx → EReal)
    (h : (shape1 2048).ReduceWindows (![2048] : Fin 1 → Nat) ![1] ![2047] ![0] (shape1 2048)) (j : Fin 2048) :
    Ideal.hostReduceWindowAdd (![2048] : Fin 1 → Nat) ![1] ![2047] ![0] h x 0 (ix1 j) = pre (fun k => x (ix1 k)) (j.val + 1) := by
  have hj := j.isLt
  unfold Ideal.hostReduceWindowAdd Host.reduceWindow
  dsimp only
  rw [foldl_plus, zero_add, ← Fin.sum_univ_def, pre, ← window_sum _ _ hj, ← Fin.sum_univ_eq_sum_range]
  refine Fintype.sum_equiv (finCongr (numel1 2048)) _ _ fun n => ?_
  have hn : n.val < 2048 := (finCongr (numel1 2048) n).isLt
  have place : ∀ a : Fin 1, (ix1 j a).val * (![1] : Fin 1 → ℕ) a + ((shape1 2048).rowMajor.symm n a).val = j.val + n.val := fun a => by
    rw [offset_val, Subsingleton.elim a 0]
    exact congrArg (· + n.val) (Nat.mul_one j.val)
  have inside : (∀ a : Fin 1, (![2047] : Fin 1 → ℕ) a ≤ (ix1 j a).val * (![1] : Fin 1 → ℕ) a + ((shape1 2048).rowMajor.symm n a).val
      ∧ (ix1 j a).val * (![1] : Fin 1 → ℕ) a + ((shape1 2048).rowMajor.symm n a).val - (![2047] : Fin 1 → ℕ) a < (shape1 2048).size a)
      ↔ 2047 ≤ j.val + n.val := by
    refine ⟨fun hin => (place 0) ▸ (hin 0).1, fun hle a => ?_⟩
    rw [place a, Subsingleton.elim a 0]
    exact ⟨hle, show j.val + n.val - 2047 < 2048 by omega⟩
  by_cases hle : 2047 ≤ j.val + n.val
  · refine (dif_pos (inside.2 hle)).trans (Eq.trans ?_ (if_pos hle).symm)
    refine Eq.trans ?_ (dif_pos (show j.val + n.val - 2047 < 2048 by omega)).symm
    refine congrArg x (funext fun a => Fin.ext ?_)
    rw [Subsingleton.elim a 0]
    exact congrArg (· - 2047) (place 0)
  · exact (dif_neg (fun hin => hle (inside.1 hin))).trans (if_neg hle).symm

end Cert.Proof.Cumsum

end
-- ==== Proof.RRead.lean ====
/- One trip of the reference's loop, read at an index over the extended reals: the log-weights, their maximum, the
   log-mean, the normalised weights, their running sums, the count below each draw, and the particles taken. -/
module

public import proofs.«01_k».proof.Proof.RefRun
public import proofs.«01_k».proof.Proof.Cumsum
public import Idealize.ShloMosaic.Lib.Pointwise
public import Idealize.ShloMosaic.Lib.IndicatorCount
public import Idealize.ShloMosaic.Lib.Routing.Ops

@[expose] public section

set_option maxRecDepth 16384

noncomputable section

namespace Cert.Proof.RRead

open Idealize.ShloMosaic Idealize.ShloMosaic.TcCoe Idealize.SL.Sem
open Cert.ReferenceIdeal Cert.ReferenceIdeal.Gen Cert.ReferenceIdeal.Step
open Cert.Proof.Consts Cert.Proof.LogWeights Cert.Proof.Resample
open scoped BigOperators

variable (x : (⟨S512x64, .f32⟩ : BufTy).Contents (Elt Ideal)) (z : (⟨S2048x512x64, .f32⟩ : BufTy).Contents (Elt Ideal))
  (u : (⟨S512x2048, .f32⟩ : BufTy).Contents (Elt Ideal))

/-- The proposal of particle `k` at time `j`. -/
def zRow (j : Fin 512) (k : Fin 2048) : Fin 64 → EReal := fun d => z (ix3 k j d)
/-- The observation at time `j`. -/
def xRow (j : Fin 512) : Fin 64 → EReal := fun d => x (ix2 j d)

/-- The particle `k` of a state. -/
def wRow (s : State Ideal) (k : Fin 2048) : Fin 64 → EReal := fun d => s.main_v27_5 (ix2 k d)

/-- The state carries what the arguments give once. -/
structure Holds (s : State Ideal) : Prop where
  v0 : s.main_v27_0 = A_main_v23 x z
  v1 : s.main_v27_1 = A_main_v24 x z
  v2 : s.main_v27_2 = A_main_v25 x z
  v3 : s.main_v27_3 = u

/-- A trip leaves them as they are. -/
theorem Holds.step {x z u} {s : State Ideal} (h : Holds x z u s) (j : ℕ) : Holds x z u (Step.step j s) := ⟨h.v0, h.v1, h.v2, h.v3⟩

/-- The column of log-weights at time `j`. -/
def lw (s : State Ideal) (j : Fin 512) (k : Fin 2048) : EReal := logw (wRow s k) (zRow z j k) (xRow x j)

/-- The logarithm of the float nearest to 2π is a real number. -/
theorem log_const : Ideal.log ((13176795 / 2097152 : ℝ) : EReal) = ((Real.log (13176795 / 2097152) : ℝ) : EReal) := by
  rw [Ideal.log_coe, if_neg (by norm_num)]

/-- The time's word, read as a number. -/
theorem toInt_time (j : Fin 512) : (BitVec.ofNat 32 j.val).toInt = (j.val : ℤ) := StableHlo.Predicate.toInt_ofNat_small _ (by have := j.isLt; omega)

variable (j : Fin 512) (s : State Ideal)

/-- The transposed proposals at time `j`. -/
theorem v23_at (k : Fin 2048) (d : Fin 64) : A_main_v23 x z (ix3 j k d) = zRow z j k d := by
  pointwise [A_main_v23]
  rfl

/-- The log-density of the observation, given the proposal. -/
theorem v24_at (k : Fin 2048) : A_main_v24 x z (ix2 j k) = dens (xRow x j) (zRow z j k) := by
  pointwise [A_main_v24,A_main_v22,A_main_v17,A_main_v15,A_main_v14,A_main_v13,A_main_v12,A_main_v11,K_main_v16,K_main_cst_5,K_main_v21,K_main_v20,K_main_v19,K_main_cst_7,K_main_v18,K_main_cst_6,K_main_cst_4]
  simp only [id]
  pointwise []
  rw [neg_half_eq, thirtytwo_eq, two_pi_eq, log_const, ← EReal.coe_mul]
  rfl

/-- The log-density of the proposal under the proposal law. -/
theorem v25_at (k : Fin 2048) : A_main_v25 x z (ix2 j k) = dens0 (zRow z j k) := by
  pointwise [A_main_v25,A_main_v10,A_main_v5,A_main_v3,A_main_v2,A_main_v1,K_main_v0,K_main_cst,K_main_v4,K_main_cst_1,K_main_v9,K_main_v8,K_main_v7,K_main_cst_3,K_main_v6,K_main_cst_2,K_main_cst_0]
  simp only [id]
  pointwise []
  rw [neg_half_eq, thirtytwo_eq, two_pi_eq, log_const, ← EReal.coe_mul]
  rfl

/-- A slice that starts at an admissible place starts there: the start at time `j`, or at zero, is not clamped. -/
theorem start3_0 (ht) (f : Fin 3 → Int) (h : f 0 = (j.val : ℤ)) : Host.clampedStart S512x2048x64 S1x2048x64 ht f 0 = j.val :=
  Host.clampedStart_of_le ht f 0 j.val h (by have := j.isLt; show j.val + 1 ≤ 512; omega)
theorem start3_1 (ht) (f : Fin 3 → Int) (h : f 1 = 0) : Host.clampedStart S512x2048x64 S1x2048x64 ht f 1 = 0 :=
  Host.clampedStart_of_le ht f 1 0 h (by show 0 + 2048 ≤ 2048; omega)
theorem start3_2 (ht) (f : Fin 3 → Int) (h : f 2 = 0) : Host.clampedStart S512x2048x64 S1x2048x64 ht f 2 = 0 :=
  Host.clampedStart_of_le ht f 2 0 h (by show 0 + 64 ≤ 64; omega)
theorem start2_0 (ht) (f : Fin 2 → Int) (h : f 0 = (j.val : ℤ)) : Host.clampedStart S512x2048 S1x2048 ht f 0 = j.val :=
  Host.clampedStart_of_le ht f 0 j.val h (by have := j.isLt; show j.val + 1 ≤ 512; omega)
theorem start2_1 (ht) (f : Fin 2 → Int) (h : f 1 = 0) : Host.clampedStart S512x2048 S1x2048 ht f 1 = 0 :=
  Host.clampedStart_of_le ht f 1 0 h (by show 0 + 2048 ≤ 2048; omega)
theorem start1_0 (ht) (f : Fin 1 → Int) (h : f 0 = (j.val : ℤ)) : Host.clampedStart S512 S1 ht f 0 = j.val :=
  Host.clampedStart_of_le ht f 0 j.val h (by have := j.isLt; show j.val + 1 ≤ 512; omega)

/-- An offset of zero drops out. -/
theorem zero_add_eq {a b : ℕ} (h : a = 0) : a + b = b := by omega

/-- The trip's proposals are row `j` of what the state carries. -/
theorem b3_at (k : Fin 2048) (d : Fin 64) : b3 j s (ix2 k d) = s.main_v27_0 (ix3 j k d) := by
  pointwise [b3, b2]
  congr 1
  refine congr (congr (congrArg ix3 (Fin.ext ?_)) (Fin.ext ?_)) (Fin.ext ?_)
  · dsimp only
    refine start3_0 j _ _ ?_
    dsimp only [Matrix.cons_val_zero, constantI]
    exact toInt_time j
  · dsimp only
    refine zero_add_eq (start3_1 _ _ ?_)
    dsimp only [Matrix.cons_val_one, Matrix.cons_val_zero, b0, constantI]
    exact BitVec.toInt_zero
  · dsimp only
    refine zero_add_eq (start3_2 _ _ ?_)
    dsimp only [Matrix.cons_val, b1, constantI]
    exact BitVec.toInt_zero

/-- The trip's observation densities are row `j` of what the state carries. -/
theorem b6_at (k : Fin 2048) : b6 j s (ix1 k) = s.main_v27_1 (ix2 j k) := by
  pointwise [b6, b5]
  congr 1
  refine congr (congrArg ix2 (Fin.ext ?_)) (Fin.ext ?_)
  · dsimp only
    refine start2_0 j _ _ ?_
    dsimp only [Matrix.cons_val_zero, constantI]
    exact toInt_time j
  · dsimp only
    refine zero_add_eq (start2_1 _ _ ?_)
    dsimp only [Matrix.cons_val_one, Matrix.cons_val_zero, b4, constantI]
    exact BitVec.toInt_zero

/-- The trip's proposal densities are row `j` of what the state carries. -/
theorem b9_at (k : Fin 2048) : b9 j s (ix1 k) = s.main_v27_2 (ix2 j k) := by
  pointwise [b9, b8]
  congr 1
  refine congr (congrArg ix2 (Fin.ext ?_)) (Fin.ext ?_)
  · dsimp only
    refine start2_0 j _ _ ?_
    dsimp only [Matrix.cons_val_zero, constantI]
    exact toInt_time j
  · dsimp only
    refine zero_add_eq (start2_1 _ _ ?_)
    dsimp only [Matrix.cons_val_one, Matrix.cons_val_zero, b7, constantI]
    exact BitVec.toInt_zero

/-- The trip's draws are row `j` of what the state carries. -/
theorem b12_at (k : Fin 2048) : b12 j s (ix1 k) = s.main_v27_3 (ix2 j k) := by
  pointwise [b12, b11]
  congr 1
  refine congr (congrArg ix2 (Fin.ext ?_)) (Fin.ext ?_)
  · dsimp only
    refine start2_0 j _ _ ?_
    dsimp only [Matrix.cons_val_zero, constantI]
    exact toInt_time j
  · dsimp only
    refine zero_add_eq (start2_1 _ _ ?_)
    dsimp only [Matrix.cons_val_one, Matrix.cons_val_zero, b10, constantI]
    exact BitVec.toInt_zero

/-- The trip's log-weights. -/
theorem b28_at (h : Holds x z u s) (k : Fin 2048) : b28 j s (ix1 k) = lw x z s j k := by
  pointwise [b28,b27,b26,b19,b18,b17,b16,b15,b14,b13,b25,b24,b23,b22,b21,b20]
  rw [b6_at, b9_at, h.v1, h.v2, v24_at, v25_at, neg_half_eq, thirtytwo_eq, two_pi_eq, log_const, ← EReal.coe_mul]
  simp only [b3_at, h.v0, v23_at]
  rfl

/-- Their maximum. -/
theorem b30_at (h : Holds x z u s) : b30 j s ix0 = Finset.univ.sup (lw x z s j) := by
  pointwise [b30,b29]
  rw [bot_eq]
  simp only [b28_at x z u j s h]
  rfl

/-- Their log-mean. -/
theorem b39_at (h : Holds x z u s) : b39 j s ix0 = meanR (lw x z s j) := by
  pointwise [b39,b38,b37,b35,b33,b32,b31,b36,b34]
  simp only [b28_at x z u j s h, b30_at x z u j s h, count_eq]
  rfl

/-- The normalised weights. -/
theorem b52_at (h : Holds x z u s) (k : Fin 2048) : b52 j s (ix1 k) = norm (wts (lw x z s j)) k := by
  pointwise [b52,b51,b50,b49,b47,b46,b45,b44,b43,b42,b48,b41,b40]
  simp only [b28_at x z u j s h, bot_eq, max_bot_left]
  rfl

/-- The running sums of the normalised weights. -/
theorem b55_at (k : Fin 2048) : b55 j s (ix1 k) = pre (fun k => b52 j s (ix1 k)) (k.val + 1) := by
  have e : b54 (F := Ideal) j s (Shape.Idx.first h_S_) = 0 := zero_eq
  unfold b55 Host.reduceWindowAdd
  rw [e]
  exact Cumsum.cumsum_at (b52 j s) reduceWindows_S2048_S2048_w2048s1p2047_0 k

/-- Where the indices are words of places, the new particles are the particles at those places. -/
theorem b80_at (p : Fin 2048 → Fin 2048) (hp : ∀ k, b78 j s (ix1 k) = BitVec.ofNat 32 (p k).val) (k : Fin 2048) (d : Fin 64) :
    b80 j s (ix2 k d) = wRow s (p k) d := by
  unfold b80
  refine Routing.gather_row _ rfl rfl rfl rfl rfl _ _ k d (p k) ?_ (by norm_num)
  rw [← hp k]
  pointwise [b79]

/-- The count capped at the last place, as the reference's words compute it. -/
theorem clip_word (n : ℕ) (hn : n ≤ 2048) :
    Scalar.select (IntOp.cmpi .slt (IntOp.minsi 2047#32 (IntOp.maxsi 0#32 (BitVec.ofNat 32 n))) 0#32)
      (IntOp.addi (IntOp.minsi 2047#32 (IntOp.maxsi 0#32 (BitVec.ofNat 32 n))) 2048#32)
      (IntOp.minsi 2047#32 (IntOp.maxsi 0#32 (BitVec.ofNat 32 n))) = BitVec.ofNat 32 (min n 2047) := by
  have e : IntOp.minsi 2047#32 (IntOp.maxsi 0#32 (BitVec.ofNat 32 n)) = BitVec.ofNat 32 (min n 2047) := by
    have h1 : IntOp.maxsi 0#32 (BitVec.ofNat 32 n) = BitVec.ofNat 32 n := by
      have : (BitVec.ofNat 32 n).slt 0#32 = false := by
        rw [BitVec.slt_eq_decide, StableHlo.Predicate.toInt_ofNat_small _ (by omega), BitVec.toInt_zero]
        exact decide_eq_false (by omega)
      simp only [IntOp.maxsi, this]
      rfl
    rw [h1]
    have h2 : (2047#32).slt (BitVec.ofNat 32 n) = decide (2047 < n) := by
      rw [BitVec.slt_eq_decide, StableHlo.Predicate.toInt_ofNat_small 2047 (by omega), StableHlo.Predicate.toInt_ofNat_small n (by omega)]
      exact decide_eq_decide.2 Nat.cast_lt
    simp only [IntOp.minsi, h2, decide_eq_true_iff]
    split
    · next h => rw [show min n 2047 = 2047 by omega]
    · next h => rw [show min n 2047 = n by omega]
  rw [e]
  have e' : IntOp.cmpi .slt (BitVec.ofNat 32 (min n 2047)) 0#32 = BitVec.ofBool (decide (min n 2047 < 0)) :=
    cmpi_slt (b := 0) (by omega) (by omega)
  rw [e', decide_eq_false (Nat.not_lt_zero _)]
  rfl

/-- At most every place lies below a draw. -/
theorem below_le (E : Fin 2048 → EReal) (t : EReal) : below E t ≤ 2048 := (Finset.card_le_univ _).trans (by simp)

/-- The number of running sums below each draw. -/
theorem b63_at (h : Holds x z u s) (k : Fin 2048) : b63 j s (ix1 k) = BitVec.ofNat 32 (below (wts (lw x z s j)) (u (ix2 j k))) := by
  pointwise [b63,b62,b61,b60,b58,b59,b57,b56]
  simp only [b55_at, b52_at x z u j s h, b12_at, h.v3]
  rw [IndicatorCount.fold_addi_setWidth_eq_card]
  refine congrArg (BitVec.ofNat 32) (congrArg Finset.card (Finset.filter_congr fun i _ => ?_))
  exact (StableHlo.Predicate.ofBool_eq_one_iff _).trans decide_eq_true_iff

/-- The index that each draw takes. -/
theorem b78_at (h : Holds x z u s) (k : Fin 2048) :
    b78 j s (ix1 k) = BitVec.ofNat 32 (place (wts (lw x z s j)) (u (ix2 j k))).val := by
  pointwise [b78,b77,b76,b75,b74,b73,b72,b71,b70,b69,b68,b67,b66,b65,b64]
  rw [b63_at x z u j s h]
  exact clip_word _ (below_le _ _)

/-- The record of log-means gets this trip's at time `j` and keeps the others. -/
theorem b82_at (t : Fin 512) : b82 j s (ix1 t) = if t = j then b39 j s ix0 else s.main_v27_6 (ix1 t) := by
  have hj := j.isLt
  have e : Host.clampedStart S512 S1 rfl (fun k => (BitVec.ofNat 32 j.val).toInt) 0 = j.val := start1_0 j _ _ (toInt_time j)
  pointwise [b82,b81]
  by_cases ht : t = j
  · rw [if_pos ht, dif_pos (by rw [e, ht]; omega)]
  · rw [if_neg ht, dif_neg (by rw [e]; intro hc; exact ht (Fin.ext (by omega)))]

end Cert.Proof.RRead

end
-- ==== Proof.Agree.lean ====
/- The kernel's and the reference's steps side by side. At each time step either the two log-means are the same
   number and the two sets of particles drawn are the same, or both log-means are minus infinity; so the two totals
   over the 512 steps are the same. -/
module

public import proofs.«01_k».proof.Proof.KRun
public import proofs.«01_k».proof.Proof.KRead
public import proofs.«01_k».proof.Proof.RRead

@[expose] public section

noncomputable section

namespace Cert.Proof.Agree

open Idealize.ShloMosaic Idealize.ShloMosaic.TcCoe Idealize.SL.Sem
open Cert.ReferenceIdeal Cert.ReferenceIdeal.Gen Cert.ReferenceIdeal.Step
open Cert.Proof.LogWeights Cert.Proof.Resample Cert.Proof.KRun Cert.Proof.RRead
open Cert.Proof.KRead (row col obs sc stepR_at stepW_at)
open scoped BigOperators

variable (x : (⟨S512x64, .f32⟩ : BufTy).Contents (Elt Ideal)) (w : (⟨S2048x64, .f32⟩ : BufTy).Contents (Elt Ideal))
  (z : (⟨S2048x512x64, .f32⟩ : BufTy).Contents (Elt Ideal)) (u : (⟨S512x2048, .f32⟩ : BufTy).Contents (Elt Ideal))

/-- The reference's state after `k` trips. -/
def state : ℕ → State Ideal
  | 0 => Step.init w u x z
  | k + 1 => Step.step k (state k)

/-- Every state of the run carries what the arguments give once. -/
theorem holds : ∀ k, Holds x z u (state x w z u k)
  | 0 => ⟨rfl, rfl, rfl, rfl⟩
  | k + 1 => (holds k).step k

/-- The reference's log-mean of step `k`. -/
def rR (k : ℕ) : EReal := b39 k (state x w z u k) ix0

/-- After `n` trips the record holds the log-mean of every earlier trip. -/
theorem logs_at (t : Fin 512) : ∀ n ≤ 512, t.val < n → (state x w z u n).main_v27_6 (ix1 t) = rR x w z u t.val
  | 0, _, h => absurd h (Nat.not_lt_zero _)
  | n + 1, hn, h => by
    have e : (state x w z u (n + 1)).main_v27_6 (ix1 t) = b82 n (state x w z u n) (ix1 t) := rfl
    rw [e, b82_at ⟨n, hn⟩]
    by_cases ht : t.val = n
    · rw [if_pos (Fin.ext ht), ht]
      rfl
    · rw [if_neg (fun c => ht (congrArg Fin.val c))]
      exact logs_at t n (by omega) (by omega)

/-- The reference's result is the sum of its log-means. -/
theorem total_R : R_main_v28 (state x w z u 512) = fun _ => ∑ k ∈ Finset.range 512, rR x w z u k := by
  funext i
  obtain rfl : i = ix0 := funext fun a => a.elim0
  pointwise [R_main_v28]
  rw [← Fin.sum_univ_eq_sum_range (fun k => rR x w z u k) 512]
  exact Finset.sum_congr rfl fun t _ => logs_at x w z u t 512 le_rfl t.isLt

/-- The kernel's accumulator after `t` grid points is the sum of the log-means of two steps each. -/
theorem total_K : ∀ t, sumK (F := Ideal) x w z u t = ∑ k ∈ Finset.range (2 * t), rK (F := Ideal) x w z u k
  | 0 => by
    rw [Finset.range_zero, Finset.sum_empty]
    exact Consts.zero_eq
  | t + 1 => by
    have e : sumK (F := Ideal) x w z u (t + 1) = sumK (F := Ideal) x w z u t
      + ((Ideal.ofBits .f32 0x00000000#32 + rK (F := Ideal) x w z u (2 * t)) + rK (F := Ideal) x w z u (2 * t + 1)) := rfl
    rw [e, total_K t, Consts.zero_eq, zero_add, show 2 * (t + 1) = 2 * t + 1 + 1 by ring, Finset.sum_range_succ, Finset.sum_range_succ, add_assoc]

/-- The particles of the two after `k` steps. -/
def Same (k : ℕ) : Prop := ∀ i d, row (wK (F := Ideal) x w z u k) i d = wRow (state x w z u k) i d

/-- The rows the kernel reads at step `j` are those of the reference. -/
theorem z_row (j : Fin 512) (k : Fin 2048) : row (zK (F := Ideal) z j.val) k = zRow z j k := by
  have e : (⟨j.val % 512, Nat.mod_lt _ (by decide)⟩ : Fin 512) = j := Fin.ext (Nat.mod_eq_of_lt j.isLt)
  funext d
  exact congrArg (fun q : Fin 512 => z (ix3 k q d)) e

/-- The observation of step `j`. -/
theorem x_row (j : Fin 512) : obs (xK (F := Ideal) x j.val) = xRow x j := by
  have e : (⟨j.val % 512, Nat.mod_lt _ (by decide)⟩ : Fin 512) = j := Fin.ext (Nat.mod_eq_of_lt j.isLt)
  funext d
  exact congrArg (fun q : Fin 512 => x (ix2 q d)) e

/-- The draws of step `j`. -/
theorem u_col (j : Fin 512) (i : Fin 2048) : col (uK (F := Ideal) u j.val) i = u (ix2 j i) := by
  have e : (⟨j.val % 512, Nat.mod_lt _ (by decide)⟩ : Fin 512) = j := Fin.ext (Nat.mod_eq_of_lt j.isLt)
  exact congrArg (fun q : Fin 512 => u (ix2 q i)) e

/-- One step, from the same particles. -/
theorem step_agree (hu : ∀ (j : Fin 512) (i : Fin 2048), (0 : EReal) < u (ix2 j i)) (j : Fin 512) (h : Same x w z u j.val) :
    (rK (F := Ideal) x w z u j.val = rR x w z u j.val ∧ Same x w z u (j.val + 1))
      ∨ (rK (F := Ideal) x w z u j.val = (⊥ : EReal) ∧ rR x w z u j.val = ⊥) := by
  have hs := holds x w z u j.val
  have er : rR x w z u j.val = meanR (lw x z (state x w z u j.val) j) := b39_at x z u j _ hs
  have ek : rK (F := Ideal) x w z u j.val
      = meanK (sc (wK (F := Ideal) x w z u j.val) (zK (F := Ideal) z j.val) (xK (F := Ideal) x j.val)) (xRow x j) := by
    rw [← x_row x j]
    exact stepR_at _ _ _
  rw [er, ek]
  have esc : sc (wK (F := Ideal) x w z u j.val) (zK (F := Ideal) z j.val) (xK (F := Ideal) x j.val)
      = fun k => score (wRow (state x w z u j.val) k) (zRow z j k) (xRow x j) := by
    funext k
    rw [sc, z_row, x_row, show row (wK (F := Ideal) x w z u j.val) k = wRow (state x w z u j.val) k from funext (h k)]
  rcases real_or_top (xRow x j) with ⟨xr, hx⟩ | hx
  · have hrel : Rel (-1 / 2 * ∑ d, xr d * xr d - logC)
        (sc (wK (F := Ideal) x w z u j.val) (zK (F := Ideal) z j.val) (xK (F := Ideal) x j.val)) (lw x z (state x w z u j.val) j) := by
      intro k
      rw [esc, lw, hx]
      exact logw_score _ _ xr
    rcases hrel.weights with ⟨h1, h2⟩ | ⟨m, e, hm, hl, h0, hS, hes, hel⟩
    · exact .inr ⟨meanK_bot _ h1, meanR_bot h2⟩
    · left
      refine ⟨?_, fun i d => ?_⟩
      · rw [hx]
        exact mean_eq xr hm hl hS hes hel
      · have hw : wts (lw x z (state x w z u j.val) j)
            = wts (sc (wK (F := Ideal) x w z u j.val) (zK (F := Ideal) z j.val) (xK (F := Ideal) x j.val)) :=
          funext fun k => (hel k).trans (hes k).symm
        have e1 : row (wK (F := Ideal) x w z u (j.val + 1)) i d
            = row (wK (F := Ideal) x w z u j.val) (place (wts (sc (wK (F := Ideal) x w z u j.val) (zK (F := Ideal) z j.val) (xK (F := Ideal) x j.val))) (u (ix2 j i))) d := by
          rw [← u_col u j i]
          refine (stepW_at _ _ _ _ i d).trans (drawn_eq hes h0 hS ?_ _)
          rw [u_col]
          exact hu j i
        have e2 : wRow (state x w z u (j.val + 1)) i d = wRow (state x w z u j.val) (place (wts (lw x z (state x w z u j.val) j)) (u (ix2 j i))) d :=
          b80_at j (state x w z u j.val) (fun k => place (wts (lw x z (state x w z u j.val) j)) (u (ix2 j k))) (b78_at x z u j _ hs) i d
        rw [e1, e2, hw]
        exact h _ d
  · right
    refine ⟨meanK_obs _ hx, meanR_bot fun k => ?_⟩
    exact logw_obs _ _ hx

/-- Through any number of steps: the same log-means and particles, or a step at which both log-means are minus infinity. -/
theorem steps_agree (hu : ∀ (j : Fin 512) (i : Fin 2048), (0 : EReal) < u (ix2 j i)) : ∀ n ≤ 512,
    (Same x w z u n ∧ ∀ k < n, rK (F := Ideal) x w z u k = rR x w z u k)
      ∨ ∃ k < n, rK (F := Ideal) x w z u k = (⊥ : EReal) ∧ rR x w z u k = ⊥
  | 0, _ => .inl ⟨fun _ _ => rfl, fun _ h => absurd h (Nat.not_lt_zero _)⟩
  | n + 1, hn => by
    rcases steps_agree hu n (by omega) with ⟨h1, h2⟩ | ⟨k, hk, h⟩
    · rcases step_agree x w z u hu ⟨n, hn⟩ h1 with ⟨h3, h4⟩ | h3
      · refine .inl ⟨h4, fun k hk => ?_⟩
        by_cases e : k = n
        · rw [e]
          exact h3
        · exact h2 k (by omega)
      · exact .inr ⟨n, Nat.lt_succ_self n, h3⟩
    · exact .inr ⟨k, by omega, h⟩

/-- A sum with a term of minus infinity is minus infinity. -/
theorem sum_bot {f : ℕ → EReal} {n k : ℕ} (hk : k < n) (h : f k = ⊥) : ∑ i ∈ Finset.range n, f i = ⊥ := by
  rw [← Finset.add_sum_erase _ _ (Finset.mem_range.2 hk), h, EReal.bot_add]

/-- The two totals are the same. -/
theorem totals (hu : ∀ (j : Fin 512) (i : Fin 2048), (0 : EReal) < u (ix2 j i)) :
    R_main_v28 (state x w z u 512) = fun _ => sumK (F := Ideal) x w z u 256 := by
  rw [total_R, total_K]
  funext _
  rcases steps_agree x w z u hu 512 le_rfl with ⟨-, h⟩ | ⟨k, hk, h1, h2⟩
  · exact Finset.sum_congr rfl fun k hk => (h k (Finset.mem_range.1 hk)).symm
  · rw [sum_bot hk h2]
    exact (sum_bot (f := fun k => rK (F := Ideal) x w z u k) hk h1).symm

end Cert.Proof.Agree

end
-- ==== Proof.Draws.lean ====
/- The precondition, entry by entry: every uniform draw is positive. -/
module

public import proofs.«01_k».proof.Proof.Gen.Pre_draws_positive
public import proofs.«01_k».proof.Proof.Consts
public import Idealize.ShloMosaic.Lib.Pointwise

@[expose] public section

noncomputable section

namespace Cert.Proof.Draws

open Idealize.ShloMosaic Idealize.ShloMosaic.TcCoe
open Cert.Pre_draws_positive

/-- A conjunction of bits that is one has every bit one. -/
theorem fold_and {ι : Type} (f : ι → BitVec 1) (s : Finset ι) (h : s.fold IntOp.andi 1#1 f = 1#1) : ∀ i ∈ s, f i = 1#1 := by
  classical
  induction s using Finset.induction_on with
  | empty => exact fun i hi => absurd hi (Finset.notMem_empty i)
  | insert a s ha ih =>
    rw [Finset.fold_insert ha] at h
    have hb : ∀ p q : BitVec 1, IntOp.andi p q = 1#1 → p = 1#1 ∧ q = 1#1 := by decide
    obtain ⟨h1, h2⟩ := hb _ _ h
    intro i hi
    rcases Finset.mem_insert.1 hi with rfl | hi
    · exact h1
    · exact ih h2 i hi

/-- Where the precondition holds, each draw is positive. -/
theorem positive (x : FVec Ideal S512x64 .f32) (w : FVec Ideal S2048x64 .f32) (z : FVec Ideal S2048x512x64 .f32)
    (u : FVec Ideal S512x2048 .f32) (h : fn (F := Ideal) x w z u = fun _ => 1#1) (j : Fin 512) (i : Fin 2048) :
    (0 : EReal) < u (ix2 j i) := by
  have h0 : fn (F := Ideal) x w z u ix0 = 1#1 := congrFun h ix0
  unfold fn at h0
  pointwise [] at h0
  exact of_decide_eq_true ((StableHlo.Predicate.ofBool_eq_one_iff _).1 (fold_and _ _ h0 (j, i) (Finset.mem_univ _)))

end Cert.Proof.Draws

end
-- ==== Proof.Claims.lean ====
/- The five claims: each program runs to its end with its arguments unchanged and its semaphores at zero, the two
   named constants of the idealised kernel round to the kernel's own, and at positive draws the idealised kernel and
   the reference compute the same number. -/
module

public import proofs.«01_k».proof.Defs
public import proofs.«01_k».proof.Proof.Agree
public import proofs.«01_k».proof.Proof.Draws
public import proofs.«01_k».proof.Proof.Gen.Kernel.Frame
public import proofs.«01_k».proof.Proof.Gen.KernelIdeal.Frame
public import Idealize.ShloMosaic.Lib.Quiescent

@[expose] public section

noncomputable section

namespace Cert.Proof.Claims

open Idealize.ShloMosaic Idealize.SL.Sem

/-- The kernel ends without fault, its arguments unchanged and its semaphores at zero. -/
theorem frame_p : Cert.quiescent_Kernel := fun m ρ _ => Cert.Kernel.Gen.frame m ρ

/-- So does the idealised kernel. -/
theorem frame_pi : Cert.quiescent_KernelIdeal := fun m ρ _ => Cert.KernelIdeal.Gen.frame m ρ

/-- The same, stated under the precondition. -/
theorem frame_pi_pre : Cert.quiescent_KernelIdeal_pre_draws_positive := fun m ρ _ => Cert.KernelIdeal.Gen.frame m ρ

/-- So does the reference. -/
theorem frame_ri : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (RefRun.run (F := Ideal) m ρ)

/-- The same, stated under the precondition. -/
theorem frame_ri_pre : Cert.quiescent_ReferenceIdeal_pre_draws_positive := fun m ρ _ => frame_ri m ρ trivial

/-- The two named constants round to the kernel's literals. -/
theorem preserves : Cert.preserves_Kernel_KernelIdeal :=
  ⟨IdealRules.named_const.statement Cert.KernelIdeal.κ "half_d_log_two_pi" .f32 0x426B3F8E#32
      ((32 * (Real.log (13176795 / 2097152)) : ℝ) : EReal) rfl,
    IdealRules.named_const.statement Cert.KernelIdeal.κ "log_k" .f32 0x40F3FCE1#32 ((Real.log 2048 : ℝ) : EReal) rfl⟩

/-- The states of the reference's run are those of the comparison. -/
theorem after_eq (m : (ℓ : Loc Cert.ReferenceIdeal.nD Cert.ReferenceIdeal.τ Cert.ReferenceIdeal.sig) → Buf (Elt Ideal) ℓ)
    (c : Dev Cert.ReferenceIdeal.nD) : ∀ k, RefRun.after (F := Ideal) m c k
      = Agree.state (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3)) k
  | 0 => rfl
  | k + 1 => congrArg (Cert.ReferenceIdeal.Step.step k) (after_eq m c k)

/-- At positive draws the idealised kernel and the reference compute the same number. -/
theorem algebraic : Cert.algebraic_KernelIdeal_ReferenceIdeal_pre_draws_positive := by
  intro m ρ m' ρ' hpre hagree
  refine ⟨_, KRun.run (F := Ideal) m ρ, ?_⟩
  refine (θ_run (Cert.ReferenceIdeal.defs (F := Ideal)) _ _).mono (fun _ h c => ⟨(h c).1.trans ?_, (h c).2⟩) (RefRun.run (F := Ideal) m' ρ')
  rw [after_eq, (hagree c).1, (hagree c).2.1, (hagree c).2.2.1, (hagree c).2.2.2]
  exact Agree.totals _ _ _ _ (Draws.positive _ _ _ _ (hpre c))

end Cert.Proof.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_draws_positive
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_draws_positive.Gen.facts,
    Claims.frame_p, Claims.frame_pi, Claims.frame_pi_pre, Claims.frame_ri, Claims.frame_ri_pre, Claims.preserves,
    Claims.algebraic⟩

end Cert.Proof

end
